-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "spread" .f32 0x3E638E39#32 ((2 / 9 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_indices_56) = v1 c
          ∧ r.2.mem ((c.tc : Thread Cert.ReferenceIdeal.nD Cert.ReferenceIdeal.τ).loc Cert.ReferenceIdeal.main_v281) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096 : Shape := ⟨1, ![4096]⟩
abbrev S8x32 : Shape := ⟨2, ![8, 32]⟩
abbrev S49x256 : Shape := ⟨2, ![49, 256]⟩
abbrev S256 : Shape := ⟨1, ![256]⟩
abbrev S2x16x256 : Shape := ⟨3, ![2, 16, 256]⟩
abbrev S2x16 : Shape := ⟨2, ![2, 16]⟩
abbrev S2x16x256x512 : Shape := ⟨4, ![2, 16, 256, 512]⟩
abbrev S2x16x512 : Shape := ⟨3, ![2, 16, 512]⟩
abbrev S2x16x512x256 : Shape := ⟨4, ![2, 16, 512, 256]⟩
abbrev S256x64 : Shape := ⟨2, ![256, 64]⟩
abbrev S64 : Shape := ⟨1, ![64]⟩
abbrev S64x8 : Shape := ⟨2, ![64, 8]⟩
abbrev S8 : Shape := ⟨1, ![8]⟩
abbrev S_ : Shape := ⟨0, ![]⟩
abbrev S1x16x256x512 : Shape := ⟨4, ![1, 16, 256, 512]⟩
abbrev S16x256x512 : Shape := ⟨3, ![16, 256, 512]⟩
abbrev S1x16x512x256 : Shape := ⟨4, ![1, 16, 512, 256]⟩
abbrev S16x512x256 : Shape := ⟨3, ![16, 512, 256]⟩

class Facts : Prop where
  bcast_S_S4096 : S_.BroadcastsInDim S4096 (![] : Fin 0 → Fin S4096.rank)
  reducesTo_S4096_S_d0 : S4096.ReducesTo [0] S_
  h_S_ : 0 < S_.numel
  slices_S2x16x256x512_S1x16x256x512_0_0_0_0 : S2x16x256x512.Slices ![0, 0, 0, 0] S1x16x256x512
  shapeCasts_S1x16x256x512_S16x256x512 : S1x16x256x512.ShapeCasts S16x256x512
  slices_S2x16x512x256_S1x16x512x256_0_0_0_0 : S2x16x512x256.Slices ![0, 0, 0, 0] S1x16x512x256
  shapeCasts_S1x16x512x256_S16x512x256 : S1x16x512x256.ShapeCasts S16x512x256
  bcast_S_S8x32 : S_.BroadcastsInDim S8x32 (![] : Fin 0 → Fin S8x32.rank)
  reducesTo_S8x32_S_d0_1 : S8x32.ReducesTo [0, 1] S_
  bcast_S_S49x256 : S_.BroadcastsInDim S49x256 (![] : Fin 0 → Fin S49x256.rank)
  reducesTo_S49x256_S_d0_1 : S49x256.ReducesTo [0, 1] S_
  bcast_S_S2x16x256 : S_.BroadcastsInDim S2x16x256 (![] : Fin 0 → Fin S2x16x256.rank)
  reducesTo_S2x16x256_S_d0_1_2 : S2x16x256.ReducesTo [0, 1, 2] S_
  bcast_S_S2x16 : S_.BroadcastsInDim S2x16 (![] : Fin 0 → Fin S2x16.rank)
  reducesTo_S2x16_S_d0_1 : S2x16.ReducesTo [0, 1] S_
  bcast_S_S16x256x512 : S_.BroadcastsInDim S16x256x512 (![] : Fin 0 → Fin S16x256x512.rank)
  reducesTo_S16x256x512_S_d0_1_2 : S16x256x512.ReducesTo [0, 1, 2] S_
  bcast_S_S16x512x256 : S_.BroadcastsInDim S16x512x256 (![] : Fin 0 → Fin S16x512x256.rank)
  reducesTo_S16x512x256_S_d0_1_2 : S16x512x256.ReducesTo [0, 1, 2] S_
  bcast_S_S256 : S_.BroadcastsInDim S256 (![] : Fin 0 → Fin S256.rank)
  reducesTo_S256_S_d0 : S256.ReducesTo [0] S_
  bcast_S_S2x16x512 : S_.BroadcastsInDim S2x16x512 (![] : Fin 0 → Fin S2x16x512.rank)
  reducesTo_S2x16x512_S_d0_1_2 : S2x16x512.ReducesTo [0, 1, 2] S_
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_

variable [Facts]

def fn_part3 {F : FTy → Type} [FloatOps F] (main_arg14 : FVec F S64 .f32) (main_arg16 : FVec F S8 .f32) (main_v47 : IVec S_ 1) (main_v50 : IVec S_ 1) : IVec S_ 1 :=
  let main_v51 : IVec S_ 1 := andi main_v47 main_v50
  let main_cst_19 : FVec F S_ .f32 := constant S_ .f32 0x00000000#32
  let main_v52 : FVec F S64 .f32 := broadcastInDim S64 ![] bcast_S_S64 main_cst_19
  let main_v53 : IVec S64 1 := cmpf .oeq main_arg14 main_v52
  let main_c_20 : IVec S_ 1 := constantI S_ 1 1#1
  let main_v54 : IVec S_ 1 := (fun x v => Host.reduce IntOp.andi x v reducesTo_S64_S_d0 h_S_) main_v53 main_c_20
  let main_v55 : IVec S_ 1 := andi main_v51 main_v54
  let main_cst_21 : FVec F S_ .f32 := constant S_ .f32 0x00000000#32
  let main_v56 : FVec F S8 .f32 := broadcastInDim S8 ![] bcast_S_S8 main_cst_21
  let main_v57 : IVec S8 1 := cmpf .oeq main_arg16 main_v56
  let main_c_22 : IVec S_ 1 := constantI S_ 1 1#1
  let main_v58 : IVec S_ 1 := (fun x v => Host.reduce IntOp.andi x v reducesTo_S8_S_d0 h_S_) main_v57 main_c_22
  let main_v59 : IVec S_ 1 := andi main_v55 main_v58
  main_v59

def fn_part2 {F : FTy → Type} [FloatOps F] (main_arg6 : FVec F S256 .f32) (main_arg10 : FVec F S2x16x512 .f32) (main_arg12 : FVec F S2x16x256 .f32) (main_arg14 : FVec F S64 .f32) (main_arg16 : FVec F S8 .f32) (main_v9 : FVec F S16x512x256 .f32) (main_v34 : IVec S_ 1) : IVec S_ 1 :=
  let main_v35 : FVec F S16x512x256 .f32 := Host.absf main_v9
  let main_cst_11 : FVec F S_ .f32 := constant S_ .f32 0x7F800000#32
  let main_v36 : FVec F S16x512x256 .f32 := broadcastInDim S16x512x256 ![] bcast_S_S16x512x256 main_cst_11
  let main_v37 : IVec S16x512x256 1 := cmpf .olt main_v35 main_v36
  let main_c_12 : IVec S_ 1 := constantI S_ 1 1#1
  let main_v38 : IVec S_ 1 := (fun x v => Host.reduce IntOp.andi x v reducesTo_S16x512x256_S_d0_1_2 h_S_) main_v37 main_c_12
  let main_v39 : IVec S_ 1 := andi main_v34 main_v38
  let main_cst_13 : FVec F S_ .f32 := constant S_ .f32 0x00000000#32
  let main_v40 : FVec F S256 .f32 := broadcastInDim S256 ![] bcast_S_S256 main_cst_13
  let main_v41 : IVec S256 1 := cmpf .oeq main_arg6 main_v40
  let main_c_14 : IVec S_ 1 := constantI S_ 1 1#1
  let main_v42 : IVec S_ 1 := (fun x v => Host.reduce IntOp.andi x v reducesTo_S256_S_d0 h_S_) main_v41 main_c_14
  let main_v43 : IVec S_ 1 := andi main_v39 main_v42
  let main_cst_15 : FVec F S_ .f32 := constant S_ .f32 0x00000000#32
  let main_v44 : FVec F S2x16x512 .f32 := broadcastInDim S2x16x512 ![] bcast_S_S2x16x512 main_cst_15
  let main_v45 : IVec S2x16x512 1 := cmpf .oeq main_arg10 main_v44
  let main_c_16 : IVec S_ 1 := constantI S_ 1 1#1
  let main_v46 : IVec S_ 1 := (fun x v => Host.reduce IntOp.andi x v reducesTo_S2x16x512_S_d0_1_2 h_S_) main_v45 main_c_16
  let main_v47 : IVec S_ 1 := andi main_v43 main_v46
  let main_cst_17 : FVec F S_ .f32 := constant S_ .f32 0x00000000#32
  let main_v48 : FVec F S2x16x256 .f32 := broadcastInDim S2x16x256 ![] bcast_S_S2x16x256 main_cst_17
  let main_v49 : IVec S2x16x256 1 := cmpf .oeq main_arg12 main_v48
  let main_c_18 : IVec S_ 1 := constantI S_ 1 1#1
  let main_v50 : IVec S_ 1 := (fun x v => Host.reduce IntOp.andi x v reducesTo_S2x16x256_S_d0_1_2 h_S_) main_v49 main_c_18
  fn_part3 (F := F) main_arg14 main_arg16 main_v47 main_v50

def fn_part1 {F : FTy → Type} [FloatOps F] (main_arg6 : FVec F S256 .f32) (main_arg7 : FVec F S2x16x256 .f32) (main_arg8 : FVec F S2x16 .f32) (main_arg10 : FVec F S2x16x512 .f32) (main_arg12 : FVec F S2x16x256 .f32) (main_arg14 : FVec F S64 .f32) (main_arg16 : FVec F S8 .f32) (main_v7 : FVec F S16x256x512 .f32) (main_v9 : FVec F S16x512x256 .f32) (main_v14 : IVec S_ 1) (main_v17 : IVec S49x256 1) : IVec S_ 1 :=
  let main_c_4 : IVec S_ 1 := constantI S_ 1 1#1
  let main_v18 : IVec S_ 1 := (fun x v => Host.reduce IntOp.andi x v reducesTo_S49x256_S_d0_1 h_S_) main_v17 main_c_4
  let main_v19 : IVec S_ 1 := andi main_v14 main_v18
  let main_v20 : FVec F S2x16x256 .f32 := Host.absf main_arg7
  let main_cst_5 : FVec F S_ .f32 := constant S_ .f32 0x7F800000#32
  let main_v21 : FVec F S2x16x256 .f32 := broadcastInDim S2x16x256 ![] bcast_S_S2x16x256 main_cst_5
  let main_v22 : IVec S2x16x256 1 := cmpf .olt main_v20 main_v21
  let main_c_6 : IVec S_ 1 := constantI S_ 1 1#1
  let main_v23 : IVec S_ 1 := (fun x v => Host.reduce IntOp.andi x v reducesTo_S2x16x256_S_d0_1_2 h_S_) main_v22 main_c_6
  let main_v24 : IVec S_ 1 := andi main_v19 main_v23
  let main_v25 : FVec F S2x16 .f32 := Host.absf main_arg8
  let main_cst_7 : FVec F S_ .f32 := constant S_ .f32 0x7F800000#32
  let main_v26 : FVec F S2x16 .f32 := broadcastInDim S2x16 ![] bcast_S_S2x16 main_cst_7
  let main_v27 : IVec S2x16 1 := cmpf .olt main_v25 main_v26
  let main_c_8 : IVec S_ 1 := constantI S_ 1 1#1
  let main_v28 : IVec S_ 1 := (fun x v => Host.reduce IntOp.andi x v reducesTo_S2x16_S_d0_1 h_S_) main_v27 main_c_8
  let main_v29 : IVec S_ 1 := andi main_v24 main_v28
  let main_v30 : FVec F S16x256x512 .f32 := Host.absf main_v7
  let main_cst_9 : FVec F S_ .f32 := constant S_ .f32 0x7F800000#32
  let main_v31 : FVec F S16x256x512 .f32 := broadcastInDim S16x256x512 ![] bcast_S_S16x256x512 main_cst_9
  let main_v32 : IVec S16x256x512 1 := cmpf .olt main_v30 main_v31
  let main_c_10 : IVec S_ 1 := constantI S_ 1 1#1
  let main_v33 : IVec S_ 1 := (fun x v => Host.reduce IntOp.andi x v reducesTo_S16x256x512_S_d0_1_2 h_S_) main_v32 main_c_10
  let main_v34 : IVec S_ 1 := andi main_v29 main_v33
  fn_part2 (F := F) main_arg6 main_arg10 main_arg12 main_arg14 main_arg16 main_v9 main_v34

def fn {F : FTy → Type} [FloatOps F] (main_arg0 : IVec S4096 32) (main_arg1 : IVec S4096 32) (main_arg2 : IVec S4096 32) (main_arg3 : IVec S4096 32) (main_arg4 : FVec F S8x32 .f32) (main_arg5 : FVec F S49x256 .f32) (main_arg6 : FVec F S256 .f32) (main_arg7 : FVec F S2x16x256 .f32) (main_arg8 : FVec F S2x16 .f32) (main_arg9 : FVec F S2x16x256x512 .f32) (main_arg10 : FVec F S2x16x512 .f32) (main_arg11 : FVec F S2x16x512x256 .f32) (main_arg12 : FVec F S2x16x256 .f32) (main_arg13 : FVec F S256x64 .f32) (main_arg14 : FVec F S64 .f32) (main_arg15 : FVec F S64x8 .f32) (main_arg16 : FVec F S8 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 8#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S1x16x256x512 .f32 := (extractStridedSlice S1x16x256x512 ![0, 0, 0, 0] · slices_S2x16x256x512_S1x16x256x512_0_0_0_0) main_arg9
  let main_v7 : FVec F S16x256x512 .f32 := shapeCast S16x256x512 main_v6 shapeCasts_S1x16x256x512_S16x256x512
  let main_v8 : FVec F S1x16x512x256 .f32 := (extractStridedSlice S1x16x512x256 ![0, 0, 0, 0] · slices_S2x16x512x256_S1x16x512x256_0_0_0_0) main_arg11
  let main_v9 : FVec F S16x512x256 .f32 := shapeCast S16x512x256 main_v8 shapeCasts_S1x16x512x256_S16x512x256
  let main_v10 : FVec F S8x32 .f32 := Host.absf main_arg4
  let main_cst : FVec F S_ .f32 := constant S_ .f32 0x7F800000#32
  let main_v11 : FVec F S8x32 .f32 := broadcastInDim S8x32 ![] bcast_S_S8x32 main_cst
  let main_v12 : IVec S8x32 1 := cmpf .olt main_v10 main_v11
  let main_c_2 : IVec S_ 1 := constantI S_ 1 1#1
  let main_v13 : IVec S_ 1 := (fun x v => Host.reduce IntOp.andi x v reducesTo_S8x32_S_d0_1 h_S_) main_v12 main_c_2
  let main_v14 : IVec S_ 1 := andi main_v5 main_v13
  let main_v15 : FVec F S49x256 .f32 := Host.absf main_arg5
  let main_cst_3 : FVec F S_ .f32 := constant S_ .f32 0x7F800000#32
  let main_v16 : FVec F S49x256 .f32 := broadcastInDim S49x256 ![] bcast_S_S49x256 main_cst_3
  let main_v17 : IVec S49x256 1 := cmpf .olt main_v15 main_v16
  fn_part1 (F := F) main_arg6 main_arg7 main_arg8 main_arg10 main_arg12 main_arg14 main_arg16 main_v7 main_v9 main_v14 main_v17
-- ==== Kernel.lean ====
abbrev S4096 : Shape := ⟨1, ![4096]⟩
abbrev S8x32 : Shape := ⟨2, ![8, 32]⟩
abbrev S49x256 : Shape := ⟨2, ![49, 256]⟩
abbrev S256 : Shape := ⟨1, ![256]⟩
abbrev S2x16x256 : Shape := ⟨3, ![2, 16, 256]⟩
abbrev S2x16 : Shape := ⟨2, ![2, 16]⟩
abbrev S2x16x256x512 : Shape := ⟨4, ![2, 16, 256, 512]⟩
abbrev S2x16x512 : Shape := ⟨3, ![2, 16, 512]⟩
abbrev S2x16x512x256 : Shape := ⟨4, ![2, 16, 512, 256]⟩
abbrev S256x64 : Shape := ⟨2, ![256, 64]⟩
abbrev S64 : Shape := ⟨1, ![64]⟩
abbrev S64x8 : Shape := ⟨2, ![64, 8]⟩
abbrev S8 : Shape := ⟨1, ![8]⟩
abbrev S4096x1 : Shape := ⟨2, ![4096, 1]⟩
abbrev S4096x8 : Shape := ⟨2, ![4096, 8]⟩
abbrev S4096x4 : Shape := ⟨2, ![4096, 4]⟩
abbrev S1x1 : Shape := ⟨2, ![1, 1]⟩
abbrev S512x1 : Shape := ⟨2, ![512, 1]⟩
abbrev S512x8 : Shape := ⟨2, ![512, 8]⟩
abbrev S512x4 : Shape := ⟨2, ![512, 4]⟩
abbrev S16x256x512 : Shape := ⟨3, ![16, 256, 512]⟩
abbrev S16x512x256 : Shape := ⟨3, ![16, 512, 256]⟩
abbrev S32x256 : Shape := ⟨2, ![32, 256]⟩
abbrev S2x256x16 : Shape := ⟨3, ![2, 256, 16]⟩
abbrev S8x16 : Shape := ⟨2, ![8, 16]⟩
abbrev S1x16x256x512 : Shape := ⟨4, ![1, 16, 256, 512]⟩
abbrev S1x1x256x512 : Shape := ⟨4, ![1, 1, 256, 512]⟩
abbrev S256x512 : Shape := ⟨2, ![256, 512]⟩
abbrev S1x256x512 : Shape := ⟨3, ![1, 256, 512]⟩
abbrev S1x1x512x256 : Shape := ⟨4, ![1, 1, 512, 256]⟩
abbrev S512x256 : Shape := ⟨2, ![512, 256]⟩
abbrev S1x512x256 : Shape := ⟨3, ![1, 512, 256]⟩
abbrev S8x256 : Shape := ⟨2, ![8, 256]⟩
abbrev S1x256 : Shape := ⟨2, ![1, 256]⟩
abbrev S1x16x256 : Shape := ⟨3, ![1, 16, 256]⟩
abbrev S16x256 : Shape := ⟨2, ![16, 256]⟩
abbrev S256x16 : Shape := ⟨2, ![256, 16]⟩
abbrev S1x256x16 : Shape := ⟨3, ![1, 256, 16]⟩
abbrev S512x32 : Shape := ⟨2, ![512, 32]⟩
abbrev S512x16 : Shape := ⟨2, ![512, 16]⟩
abbrev S1x16 : Shape := ⟨2, ![1, 16]⟩
abbrev S512 : Shape := ⟨1, ![512]⟩
abbrev S512x512 : Shape := ⟨2, ![512, 512]⟩
abbrev S16 : Shape := ⟨1, ![16]⟩
abbrev S512x64 : Shape := ⟨2, ![512, 64]⟩
abbrev S1x1x16 : Shape := ⟨3, ![1, 1, 16]⟩
abbrev S1 : Shape := ⟨1, ![1]⟩
abbrev S1x1x1 : Shape := ⟨3, ![1, 1, 1]⟩

abbrev nBuf : Space → Nat
  | .hbm => 25
  | .vmem => 27
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S8x32, .f32⟩
  | .hbm, ⟨5, _⟩ => ⟨S49x256, .f32⟩
  | .hbm, ⟨6, _⟩ => ⟨S256, .f32⟩
  | .hbm, ⟨7, _⟩ => ⟨S2x16x256, .f32⟩
  | .hbm, ⟨8, _⟩ => ⟨S2x16, .f32⟩
  | .hbm, ⟨9, _⟩ => ⟨S2x16x256x512, .f32⟩
  | .hbm, ⟨10, _⟩ => ⟨S2x16x512, .f32⟩
  | .hbm, ⟨11, _⟩ => ⟨S2x16x512x256, .f32⟩
  | .hbm, ⟨12, _⟩ => ⟨S2x16x256, .f32⟩
  | .hbm, ⟨13, _⟩ => ⟨S256x64, .f32⟩
  | .hbm, ⟨14, _⟩ => ⟨S64, .f32⟩
  | .hbm, ⟨15, _⟩ => ⟨S64x8, .f32⟩
  | .hbm, ⟨16, _⟩ => ⟨S8, .f32⟩
  | .hbm, ⟨17, _⟩ => ⟨S4096x1, .i32⟩
  | .hbm, ⟨18, _⟩ => ⟨S4096x1, .i32⟩
  | .hbm, ⟨19, _⟩ => ⟨S4096x1, .i32⟩
  | .hbm, ⟨20, _⟩ => ⟨S4096x1, .i32⟩
  | .hbm, ⟨21, _⟩ => ⟨S2x16x512x256, .bf16⟩
  | .hbm, ⟨22, _⟩ => ⟨S4096x8, .f32⟩
  | .hbm, ⟨23, _⟩ => ⟨S4096x4, .i32⟩
  | .hbm, ⟨24, _⟩ => ⟨S1x1, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S8x32, .f32⟩
  | .local _ .vmem, ⟨9, _⟩ => ⟨S49x256, .f32⟩
  | .local _ .vmem, ⟨10, _⟩ => ⟨S2x16x256, .f32⟩
  | .local _ .vmem, ⟨11, _⟩ => ⟨S2x16, .f32⟩
  | .local _ .vmem, ⟨12, _⟩ => ⟨S2x16x256x512, .f32⟩
  | .local _ .vmem, ⟨13, _⟩ => ⟨S2x16x512x256, .bf16⟩
  | .local _ .vmem, ⟨14, _⟩ => ⟨S256x64, .f32⟩
  | .local _ .vmem, ⟨15, _⟩ => ⟨S64x8, .f32⟩
  | .local _ .vmem, ⟨16, _⟩ => ⟨S512x8, .f32⟩
  | .local _ .vmem, ⟨17, _⟩ => ⟨S512x8, .f32⟩
  | .local _ .vmem, ⟨18, _⟩ => ⟨S512x4, .i32⟩
  | .local _ .vmem, ⟨19, _⟩ => ⟨S512x4, .i32⟩
  | .local _ .vmem, ⟨20, _⟩ => ⟨S1x1, .f32⟩
  | .local _ .vmem, ⟨21, _⟩ => ⟨S16x256x512, .bf16⟩
  | .local _ .vmem, ⟨22, _⟩ => ⟨S16x256x512, .fp8e4m3⟩
  | .local _ .vmem, ⟨23, _⟩ => ⟨S16x512x256, .fp8e4m3⟩
  | .local _ .vmem, ⟨24, _⟩ => ⟨S32x256, .f32⟩
  | .local _ .vmem, ⟨25, _⟩ => ⟨S2x256x16, .f32⟩
  | .local _ .vmem, ⟨26, _⟩ => ⟨S8x16, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_413 : BitVec 32 := 7#32
  let v764 : BitVec 1 := Scalar.cmpi .eq arg0 c7_i32_413
  let v765 : BitVec 32 := Scalar.extui v764
  let c0_i32_414 : BitVec 32 := 0#32
  let v766 : BitVec 1 := Scalar.cmpi .ne v765 c0_i32_414
  v766

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S49x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x16x256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x16x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "spread" => some ((2 / 9 : ℝ) : EReal)
  | _ => none
-- ==== ReferenceIdeal.lean ====
abbrev S4096 : Shape := ⟨1, ![4096]⟩
abbrev S8x32 : Shape := ⟨2, ![8, 32]⟩
abbrev S49x256 : Shape := ⟨2, ![49, 256]⟩
abbrev S256 : Shape := ⟨1, ![256]⟩
abbrev S2x16x256 : Shape := ⟨3, ![2, 16, 256]⟩
abbrev S2x16 : Shape := ⟨2, ![2, 16]⟩
abbrev S2x16x256x512 : Shape := ⟨4, ![2, 16, 256, 512]⟩
abbrev S2x16x512 : Shape := ⟨3, ![2, 16, 512]⟩
abbrev S2x16x512x256 : Shape := ⟨4, ![2, 16, 512, 256]⟩
abbrev S256x64 : Shape := ⟨2, ![256, 64]⟩
abbrev S64 : Shape := ⟨1, ![64]⟩
abbrev S64x8 : Shape := ⟨2, ![64, 8]⟩
abbrev S8 : Shape := ⟨1, ![8]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x32 : Shape := ⟨2, ![4096, 32]⟩
abbrev S4096x8 : Shape := ⟨2, ![4096, 8]⟩
abbrev S4096x49 : Shape := ⟨2, ![4096, 49]⟩
abbrev S4096x256 : Shape := ⟨2, ![4096, 256]⟩
abbrev S1x256 : Shape := ⟨2, ![1, 256]⟩
abbrev S1x16x256 : Shape := ⟨3, ![1, 16, 256]⟩
abbrev S16x256 : Shape := ⟨2, ![16, 256]⟩
abbrev S1x16 : Shape := ⟨2, ![1, 16]⟩
abbrev S16 : Shape := ⟨1, ![16]⟩
abbrev S1x16x256x512 : Shape := ⟨4, ![1, 16, 256, 512]⟩
abbrev S16x256x512 : Shape := ⟨3, ![16, 256, 512]⟩
abbrev S1x16x512 : Shape := ⟨3, ![1, 16, 512]⟩
abbrev S16x512 : Shape := ⟨2, ![16, 512]⟩
abbrev S1x16x512x256 : Shape := ⟨4, ![1, 16, 512, 256]⟩
abbrev S16x512x256 : Shape := ⟨3, ![16, 512, 256]⟩
abbrev S256x16 : Shape := ⟨2, ![256, 16]⟩
abbrev S4096x16 : Shape := ⟨2, ![4096, 16]⟩
abbrev S4096x4 : Shape := ⟨2, ![4096, 4]⟩
abbrev S4096x4x1 : Shape := ⟨3, ![4096, 4, 1]⟩
abbrev S4096x4x2 : Shape := ⟨3, ![4096, 4, 2]⟩
abbrev S4096x16x512 : Shape := ⟨3, ![4096, 16, 512]⟩
abbrev S16x256x4096 : Shape := ⟨3, ![16, 256, 4096]⟩
abbrev S4096x16x256 : Shape := ⟨3, ![4096, 16, 256]⟩
abbrev S4096x64 : Shape := ⟨2, ![4096, 64]⟩
abbrev S1x64 : Shape := ⟨2, ![1, 64]⟩
abbrev S1x8 : Shape := ⟨2, ![1, 8]⟩

abbrev nBuf : Space → Nat
  | .hbm => 404
  | .vmem => 0
  | .smem => 0
  | _ => 0

abbrev hbmTy0_0 (i : Nat) : BufTy := match i % 128 with
  | 0 => ⟨S4096, .i32⟩
  | 1 => ⟨S4096, .i32⟩
  | 2 => ⟨S4096, .i32⟩
  | 3 => ⟨S4096, .i32⟩
  | 4 => ⟨S8x32, .f32⟩
  | 5 => ⟨S49x256, .f32⟩
  | 6 => ⟨S256, .f32⟩
  | 7 => ⟨S2x16x256, .f32⟩
  | 8 => ⟨S2x16, .f32⟩
  | 9 => ⟨S2x16x256x512, .f32⟩
  | 10 => ⟨S2x16x512, .f32⟩
  | 11 => ⟨S2x16x512x256, .f32⟩
  | 12 => ⟨S2x16x256, .f32⟩
  | 13 => ⟨S256x64, .f32⟩
  | 14 => ⟨S64, .f32⟩
  | 15 => ⟨S64x8, .f32⟩
  | 16 => ⟨S8, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S1, .i32⟩
  | 26 => ⟨S_, .i32⟩
  | 27 => ⟨S4096x1, .i32⟩
  | 28 => ⟨S4096x1, .i1⟩
  | 29 => ⟨S1x1, .i32⟩
  | 30 => ⟨S4096x1, .i32⟩
  | 31 => ⟨S4096x1, .i1⟩
  | 32 => ⟨S4096x1, .i1⟩
  | 33 => ⟨S_, .i1⟩
  | 34 => ⟨S4096, .i1⟩
  | 35 => ⟨S4096x32, .f32⟩
  | 36 => ⟨S4096x32, .i1⟩
  | 37 => ⟨S_, .f32⟩
  | 38 => ⟨S4096x32, .f32⟩
  | 39 => ⟨S4096x32, .f32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096x1, .i32⟩
  | 89 => ⟨S4096x1, .i32⟩
  | 90 => ⟨S4096x1, .i32⟩
  | 91 => ⟨S4096x1, .i32⟩
  | 92 => ⟨S4096x1, .i32⟩
  | 93 => ⟨S4096x1, .i32⟩
  | 94 => ⟨S4096x1, .i32⟩
  | 95 => ⟨S4096x1, .i32⟩
  | 96 => ⟨S4096x8, .i32⟩
  | 97 => ⟨S4096x8, .f32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S4096, .i32⟩

abbrev hbmTy0_1 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S4096x1, .i32⟩
  | 19 => ⟨S4096x1, .i32⟩
  | 20 => ⟨S4096x1, .i32⟩
  | 21 => ⟨S4096x1, .i32⟩
  | 22 => ⟨S4096x1, .i32⟩
  | 23 => ⟨S4096x1, .i32⟩
  | 24 => ⟨S4096x1, .i32⟩
  | 25 => ⟨S4096x1, .i32⟩
  | 26 => ⟨S4096x8, .i32⟩
  | 27 => ⟨S4096x8, .f32⟩
  | 28 => ⟨S4096x1, .i32⟩
  | 29 => ⟨S4096x1, .f32⟩
  | 30 => ⟨S4096x49, .f32⟩
  | 31 => ⟨S4096x256, .f32⟩
  | 32 => ⟨S1x256, .f32⟩
  | 33 => ⟨S4096x256, .f32⟩
  | 34 => ⟨S4096x256, .f32⟩
  | 35 => ⟨S4096, .f32⟩
  | 36 => ⟨S4096x1, .f32⟩
  | 37 => ⟨S1x16x256, .f32⟩
  | 38 => ⟨S16x256, .f32⟩
  | 39 => ⟨S1x16, .f32⟩
  | 40 => ⟨S16, .f32⟩
  | 41 => ⟨S1x16x256x512, .f32⟩
  | 42 => ⟨S16x256x512, .f32⟩
  | 43 => ⟨S1x16x512, .f32⟩
  | 44 => ⟨S16x512, .f32⟩
  | 45 => ⟨S1x16x512x256, .f32⟩
  | 46 => ⟨S16x512x256, .f32⟩
  | 47 => ⟨S1x16x256, .f32⟩
  | 48 => ⟨S16x256, .f32⟩
  | 49 => ⟨S256x16, .f32⟩
  | 50 => ⟨S4096x16, .f32⟩
  | 51 => ⟨S_, .f32⟩
  | 52 => ⟨S_, .f32⟩
  | 53 => ⟨S4096x16, .f32⟩
  | 54 => ⟨S4096x16, .f32⟩
  | 55 => ⟨S1x16, .f32⟩
  | 56 => ⟨S4096x16, .f32⟩
  | 57 => ⟨S4096x16, .f32⟩
  | 58 => ⟨S4096x16, .f32⟩
  | 59 => ⟨S4096x16, .f32⟩
  | 60 => ⟨S4096x16, .f32⟩
  | 61 => ⟨S_, .f32⟩
  | 62 => ⟨S4096x16, .f32⟩
  | 63 => ⟨S4096x16, .f32⟩
  | 64 => ⟨S4096x16, .f32⟩
  | 65 => ⟨S_, .f32⟩
  | 66 => ⟨S4096, .f32⟩
  | 67 => ⟨S_, .f32⟩
  | 68 => ⟨S4096, .f32⟩
  | 69 => ⟨S4096, .f32⟩
  | 70 => ⟨S4096x1, .f32⟩
  | 71 => ⟨S4096x16, .f32⟩
  | 72 => ⟨S4096x16, .f32⟩
  | 73 => ⟨S4096x16, .f32⟩
  | 74 => ⟨S_, .f32⟩
  | 75 => ⟨S4096, .f32⟩
  | 76 => ⟨S4096x1, .f32⟩
  | 77 => ⟨S4096x16, .f32⟩
  | 78 => ⟨S4096x16, .f32⟩
  | 79 => ⟨S4096x4, .f32⟩
  | 80 => ⟨S4096x4, .i32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S4096x4, .f32⟩
  | 88 => ⟨S4096x4, .f32⟩
  | 89 => ⟨S_, .f32⟩
  | 90 => ⟨S4096x16, .f32⟩
  | 91 => ⟨S4096, .i32⟩
  | 92 => ⟨S4096x1, .i32⟩
  | 93 => ⟨S_, .i32⟩
  | 94 => ⟨S4096x1, .i32⟩
  | 95 => ⟨S4096x1, .i1⟩
  | 96 => ⟨S_, .i32⟩
  | 97 => ⟨S4096x1, .i32⟩
  | 98 => ⟨S4096x1, .i32⟩
  | 99 => ⟨S4096x1, .i32⟩
  | 100 => ⟨S_, .i32⟩
  | 101 => ⟨S4096x4, .i32⟩
  | 102 => ⟨S4096x4, .i1⟩
  | 103 => ⟨S_, .i32⟩
  | 104 => ⟨S4096x4, .i32⟩
  | 105 => ⟨S4096x4, .i32⟩
  | 106 => ⟨S4096x4, .i32⟩
  | 107 => ⟨S4096x4, .i32⟩
  | 108 => ⟨S4096x4x1, .i32⟩
  | 109 => ⟨S4096x4x1, .i32⟩
  | 110 => ⟨S4096x4x2, .i32⟩
  | 111 => ⟨S4096x16, .f32⟩
  | 112 => ⟨S4096x16x512, .f32⟩
  | 113 => ⟨S1x16x512, .f32⟩
  | 114 => ⟨S4096x16x512, .f32⟩
  | 115 => ⟨S4096x16x512, .f32⟩
  | 116 => ⟨S_, .f32⟩
  | 117 => ⟨S4096x16x512, .f32⟩
  | 118 => ⟨S4096x16x512, .f32⟩
  | 119 => ⟨S16x256x4096, .f32⟩
  | 120 => ⟨S4096x16x256, .f32⟩
  | 121 => ⟨S1x16x256, .f32⟩
  | 122 => ⟨S4096x16x256, .f32⟩
  | 123 => ⟨S4096x16x256, .f32⟩
  | 124 => ⟨S4096x256, .f32⟩
  | 125 => ⟨S4096x256, .f32⟩
  | 126 => ⟨S_, .f32⟩
  | 127 => ⟨S16, .f32⟩
  | _ => ⟨S4096, .i32⟩

abbrev hbmTy0_2 (i : Nat) : BufTy := match i % 128 with
  | 0 => ⟨S_, .f32⟩
  | 1 => ⟨S16, .f32⟩
  | 2 => ⟨S16, .f32⟩
  | 3 => ⟨S_, .f32⟩
  | 4 => ⟨S4096x16, .f32⟩
  | 5 => ⟨S4096x16, .i1⟩
  | 6 => ⟨S4096x16, .f32⟩
  | 7 => ⟨S_, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1x16x256, .f32⟩
  | 20 => ⟨S16x256, .f32⟩
  | 21 => ⟨S1x16, .f32⟩
  | 22 => ⟨S16, .f32⟩
  | 23 => ⟨S1x16x256x512, .f32⟩
  | 24 => ⟨S16x256x512, .f32⟩
  | 25 => ⟨S1x16x512, .f32⟩
  | 26 => ⟨S16x512, .f32⟩
  | 27 => ⟨S1x16x512x256, .f32⟩
  | 28 => ⟨S16x512x256, .f32⟩
  | 29 => ⟨S1x16x256, .f32⟩
  | 30 => ⟨S16x256, .f32⟩
  | 31 => ⟨S256x16, .f32⟩
  | 32 => ⟨S4096x16, .f32⟩
  | 33 => ⟨S_, .f32⟩
  | 34 => ⟨S_, .f32⟩
  | 35 => ⟨S4096x16, .f32⟩
  | 36 => ⟨S4096x16, .f32⟩
  | 37 => ⟨S1x16, .f32⟩
  | 38 => ⟨S4096x16, .f32⟩
  | 39 => ⟨S4096x16, .f32⟩
  | 40 => ⟨S4096x16, .f32⟩
  | 41 => ⟨S4096x16, .f32⟩
  | 42 => ⟨S4096x16, .f32⟩
  | 43 => ⟨S_, .f32⟩
  | 44 => ⟨S4096x16, .f32⟩
  | 45 => ⟨S4096x16, .f32⟩
  | 46 => ⟨S4096x16, .f32⟩
  | 47 => ⟨S_, .f32⟩
  | 48 => ⟨S4096, .f32⟩
  | 49 => ⟨S_, .f32⟩
  | 50 => ⟨S4096, .f32⟩
  | 51 => ⟨S4096, .f32⟩
  | 52 => ⟨S4096x1, .f32⟩
  | 53 => ⟨S4096x16, .f32⟩
  | 54 => ⟨S4096x16, .f32⟩
  | 55 => ⟨S4096x16, .f32⟩
  | 56 => ⟨S_, .f32⟩
  | 57 => ⟨S4096, .f32⟩
  | 58 => ⟨S4096x1, .f32⟩
  | 59 => ⟨S4096x16, .f32⟩
  | 60 => ⟨S4096x16, .f32⟩
  | 61 => ⟨S4096x4, .f32⟩
  | 62 => ⟨S4096x4, .i32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S4096x4, .f32⟩
  | 70 => ⟨S4096x4, .f32⟩
  | 71 => ⟨S_, .f32⟩
  | 72 => ⟨S4096x16, .f32⟩
  | 73 => ⟨S4096, .i32⟩
  | 74 => ⟨S4096x1, .i32⟩
  | 75 => ⟨S_, .i32⟩
  | 76 => ⟨S4096x1, .i32⟩
  | 77 => ⟨S4096x1, .i1⟩
  | 78 => ⟨S_, .i32⟩
  | 79 => ⟨S4096x1, .i32⟩
  | 80 => ⟨S4096x1, .i32⟩
  | 81 => ⟨S4096x1, .i32⟩
  | 82 => ⟨S_, .i32⟩
  | 83 => ⟨S4096x4, .i32⟩
  | 84 => ⟨S4096x4, .i1⟩
  | 85 => ⟨S_, .i32⟩
  | 86 => ⟨S4096x4, .i32⟩
  | 87 => ⟨S4096x4, .i32⟩
  | 88 => ⟨S4096x4, .i32⟩
  | 89 => ⟨S4096x4, .i32⟩
  | 90 => ⟨S4096x4x1, .i32⟩
  | 91 => ⟨S4096x4x1, .i32⟩
  | 92 => ⟨S4096x4x2, .i32⟩
  | 93 => ⟨S4096x16, .f32⟩
  | 94 => ⟨S4096x16x512, .f32⟩
  | 95 => ⟨S1x16x512, .f32⟩
  | 96 => ⟨S4096x16x512, .f32⟩
  | 97 => ⟨S4096x16x512, .f32⟩
  | 98 => ⟨S_, .f32⟩
  | 99 => ⟨S4096x16x512, .f32⟩
  | 100 => ⟨S4096x16x512, .f32⟩
  | 101 => ⟨S16x256x4096, .f32⟩
  | 102 => ⟨S4096x16x256, .f32⟩
  | 103 => ⟨S1x16x256, .f32⟩
  | 104 => ⟨S4096x16x256, .f32⟩
  | 105 => ⟨S4096x16x256, .f32⟩
  | 106 => ⟨S4096x256, .f32⟩
  | 107 => ⟨S4096x256, .f32⟩
  | 108 => ⟨S_, .f32⟩
  | 109 => ⟨S16, .f32⟩
  | 110 => ⟨S_, .f32⟩
  | 111 => ⟨S16, .f32⟩
  | 112 => ⟨S16, .f32⟩
  | 113 => ⟨S_, .f32⟩
  | 114 => ⟨S4096x16, .f32⟩
  | 115 => ⟨S4096x16, .i1⟩
  | 116 => ⟨S4096x16, .f32⟩
  | 117 => ⟨S_, .f32⟩
  | 118 => ⟨S16, .f32⟩
  | 119 => ⟨S_, .f32⟩
  | 120 => ⟨S16, .f32⟩
  | 121 => ⟨S16, .f32⟩
  | 122 => ⟨S16, .f32⟩
  | 123 => ⟨S_, .f32⟩
  | 124 => ⟨S_, .f32⟩
  | 125 => ⟨S_, .f32⟩
  | 126 => ⟨S_, .f32⟩
  | 127 => ⟨S_, .f32⟩
  | _ => ⟨S4096, .i32⟩

abbrev hbmTy0_3 (i : Nat) : BufTy := match i % 128 with
  | 0 => ⟨S4096x64, .f32⟩
  | 1 => ⟨S1x64, .f32⟩
  | 2 => ⟨S4096x64, .f32⟩
  | 3 => ⟨S4096x64, .f32⟩
  | 4 => ⟨S_, .f32⟩
  | 5 => ⟨S4096x64, .f32⟩
  | 6 => ⟨S4096x64, .f32⟩
  | 7 => ⟨S4096x8, .f32⟩
  | 8 => ⟨S1x8, .f32⟩
  | 9 => ⟨S4096x8, .f32⟩
  | 10 => ⟨S4096x8, .f32⟩
  | 11 => ⟨S4096x8, .f32⟩
  | 12 => ⟨S4096x8, .f32⟩
  | 13 => ⟨S_, .f32⟩
  | 14 => ⟨S4096x8, .f32⟩
  | 15 => ⟨S4096x8, .f32⟩
  | 16 => ⟨S_, .f32⟩
  | 17 => ⟨S4096x8, .f32⟩
  | 18 => ⟨S4096x8, .f32⟩
  | 19 => ⟨S1x1, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_c : Ref sig .tc := ⟨.hbm, 40, rfl⟩
abbrev main_v1 : Ref sig .tc := ⟨.hbm, 41, rfl⟩
abbrev main_v2 : Ref sig .tc := ⟨.hbm, 42, rfl⟩
abbrev main_c_0 : Ref sig .tc := ⟨.hbm, 43, rfl⟩
abbrev main_v3 : Ref sig .tc := ⟨.hbm, 44, rfl⟩
abbrev main_v4 : Ref sig .tc := ⟨.hbm, 45, rfl⟩
abbrev main_c_1 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_v11 : Ref sig .tc := ⟨.hbm, 56, rfl⟩
abbrev main_v12 : Ref sig .tc := ⟨.hbm, 57, rfl⟩
abbrev main_c_5 : Ref sig .tc := ⟨.hbm, 58, rfl⟩
abbrev main_v13 : Ref sig .tc := ⟨.hbm, 59, rfl⟩
abbrev main_v14 : Ref sig .tc := ⟨.hbm, 60, rfl⟩
abbrev main_c_6 : Ref sig .tc := ⟨.hbm, 61, rfl⟩
abbrev main_v15 : Ref sig .tc := ⟨.hbm, 62, rfl⟩
abbrev main_v16 : Ref sig .tc := ⟨.hbm, 63, rfl⟩
abbrev main_c_7 : Ref sig .tc := ⟨.hbm, 64, rfl⟩
abbrev main_v17 : Ref sig .tc := ⟨.hbm, 65, rfl⟩
abbrev main_v18 : Ref sig .tc := ⟨.hbm, 66, rfl⟩
abbrev main_c_8 : Ref sig .tc := ⟨.hbm, 67, rfl⟩
abbrev main_v19 : Ref sig .tc := ⟨.hbm, 68, rfl⟩
abbrev main_v20 : Ref sig .tc := ⟨.hbm, 69, rfl⟩
abbrev main_c_9 : Ref sig .tc := ⟨.hbm, 70, rfl⟩
abbrev main_v21 : Ref sig .tc := ⟨.hbm, 71, rfl⟩
abbrev main_v22 : Ref sig .tc := ⟨.hbm, 72, rfl⟩
abbrev main_c_10 : Ref sig .tc := ⟨.hbm, 73, rfl⟩
abbrev main_v23 : Ref sig .tc := ⟨.hbm, 74, rfl⟩
abbrev main_v24 : Ref sig .tc := ⟨.hbm, 75, rfl⟩
abbrev main_c_11 : Ref sig .tc := ⟨.hbm, 76, rfl⟩
abbrev main_v25 : Ref sig .tc := ⟨.hbm, 77, rfl⟩
abbrev main_v26 : Ref sig .tc := ⟨.hbm, 78, rfl⟩
abbrev main_c_12 : Ref sig .tc := ⟨.hbm, 79, rfl⟩
abbrev main_v27 : Ref sig .tc := ⟨.hbm, 80, rfl⟩
abbrev main_v28 : Ref sig .tc := ⟨.hbm, 81, rfl⟩
abbrev main_c_13 : Ref sig .tc := ⟨.hbm, 82, rfl⟩
abbrev main_v29 : Ref sig .tc := ⟨.hbm, 83, rfl⟩
abbrev main_v30 : Ref sig .tc := ⟨.hbm, 84, rfl⟩
abbrev main_c_14 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_c_15 : Ref sig .tc := ⟨.hbm, 98, rfl⟩
abbrev main_v43 : Ref sig .tc := ⟨.hbm, 99, rfl⟩
abbrev main_v44 : Ref sig .tc := ⟨.hbm, 100, rfl⟩
abbrev main_c_16 : Ref sig .tc := ⟨.hbm, 101, rfl⟩
abbrev main_v45 : Ref sig .tc := ⟨.hbm, 102, rfl⟩
abbrev main_v46 : Ref sig .tc := ⟨.hbm, 103, rfl⟩
abbrev main_c_17 : Ref sig .tc := ⟨.hbm, 104, rfl⟩
abbrev main_v47 : Ref sig .tc := ⟨.hbm, 105, rfl⟩
abbrev main_v48 : Ref sig .tc := ⟨.hbm, 106, rfl⟩
abbrev main_c_18 : Ref sig .tc := ⟨.hbm, 107, rfl⟩
abbrev main_v49 : Ref sig .tc := ⟨.hbm, 108, rfl⟩
abbrev main_v50 : Ref sig .tc := ⟨.hbm, 109, rfl⟩
abbrev main_c_19 : Ref sig .tc := ⟨.hbm, 110, rfl⟩
abbrev main_v51 : Ref sig .tc := ⟨.hbm, 111, rfl⟩
abbrev main_v52 : Ref sig .tc := ⟨.hbm, 112, rfl⟩
abbrev main_c_20 : Ref sig .tc := ⟨.hbm, 113, rfl⟩
abbrev main_v53 : Ref sig .tc := ⟨.hbm, 114, rfl⟩
abbrev main_v54 : Ref sig .tc := ⟨.hbm, 115, rfl⟩
abbrev main_c_21 : Ref sig .tc := ⟨.hbm, 116, rfl⟩
abbrev main_v55 : Ref sig .tc := ⟨.hbm, 117, rfl⟩
abbrev main_v56 : Ref sig .tc := ⟨.hbm, 118, rfl⟩
abbrev main_c_22 : Ref sig .tc := ⟨.hbm, 119, rfl⟩
abbrev main_v57 : Ref sig .tc := ⟨.hbm, 120, rfl⟩
abbrev main_v58 : Ref sig .tc := ⟨.hbm, 121, rfl⟩
abbrev main_c_23 : Ref sig .tc := ⟨.hbm, 122, rfl⟩
abbrev main_v59 : Ref sig .tc := ⟨.hbm, 123, rfl⟩
abbrev main_v60 : Ref sig .tc := ⟨.hbm, 124, rfl⟩
abbrev main_c_24 : Ref sig .tc := ⟨.hbm, 125, rfl⟩
abbrev main_v61 : Ref sig .tc := ⟨.hbm, 126, rfl⟩
abbrev main_v62 : Ref sig .tc := ⟨.hbm, 127, rfl⟩
abbrev main_c_25 : Ref sig .tc := ⟨.hbm, 128, rfl⟩
abbrev main_v63 : Ref sig .tc := ⟨.hbm, 129, rfl⟩
abbrev main_v64 : Ref sig .tc := ⟨.hbm, 130, rfl⟩
abbrev main_c_26 : Ref sig .tc := ⟨.hbm, 131, rfl⟩
abbrev main_v65 : Ref sig .tc := ⟨.hbm, 132, rfl⟩
abbrev main_v66 : Ref sig .tc := ⟨.hbm, 133, rfl⟩
abbrev main_c_27 : Ref sig .tc := ⟨.hbm, 134, rfl⟩
abbrev main_v67 : Ref sig .tc := ⟨.hbm, 135, rfl⟩
abbrev main_v68 : Ref sig .tc := ⟨.hbm, 136, rfl⟩
abbrev main_c_28 : Ref sig .tc := ⟨.hbm, 137, rfl⟩
abbrev main_v69 : Ref sig .tc := ⟨.hbm, 138, rfl⟩
abbrev main_v70 : Ref sig .tc := ⟨.hbm, 139, rfl⟩
abbrev main_c_29 : Ref sig .tc := ⟨.hbm, 140, rfl⟩
abbrev main_v71 : Ref sig .tc := ⟨.hbm, 141, rfl⟩
abbrev main_v72 : Ref sig .tc := ⟨.hbm, 142, rfl⟩
abbrev main_c_30 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_cst : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_31 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_32 : Ref sig .tc := ⟨.hbm, 193, rfl⟩
abbrev main_v120 : Ref sig .tc := ⟨.hbm, 194, rfl⟩
abbrev main_cst_33 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_cst_34 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_values : Ref sig .tc := ⟨.hbm, 207, rfl⟩
abbrev main_indices : Ref sig .tc := ⟨.hbm, 208, rfl⟩
abbrev main_cst_35 : Ref sig .tc := ⟨.hbm, 209, rfl⟩
abbrev main_v131 : Ref sig .tc := ⟨.hbm, 210, rfl⟩
abbrev main_v132 : Ref sig .tc := ⟨.hbm, 211, rfl⟩
abbrev main_cst_36 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_cst_37 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_c_38 : Ref sig .tc := ⟨.hbm, 221, rfl⟩
abbrev main_v140 : Ref sig .tc := ⟨.hbm, 222, rfl⟩
abbrev main_v141 : Ref sig .tc := ⟨.hbm, 223, rfl⟩
abbrev main_c_39 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_c_40 : Ref sig .tc := ⟨.hbm, 228, rfl⟩
abbrev main_v145 : Ref sig .tc := ⟨.hbm, 229, rfl⟩
abbrev main_v146 : Ref sig .tc := ⟨.hbm, 230, rfl⟩
abbrev main_c_41 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_call1_cst : Ref sig .tc := ⟨.hbm, 244, rfl⟩
abbrev main_call1_v0 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_42 : Ref sig .tc := ⟨.hbm, 254, rfl⟩
abbrev main_v167 : Ref sig .tc := ⟨.hbm, 255, rfl⟩
abbrev main_cst_43 : Ref sig .tc := ⟨.hbm, 256, rfl⟩
abbrev main_v168 : Ref sig .tc := ⟨.hbm, 257, rfl⟩
abbrev main_v169 : Ref sig .tc := ⟨.hbm, 258, rfl⟩
abbrev main_cst_44 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_cst_45 : Ref sig .tc := ⟨.hbm, 263, rfl⟩
abbrev main_v173 : Ref sig .tc := ⟨.hbm, 264, rfl⟩
abbrev main_cst_46 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_cst_47 : Ref sig .tc := ⟨.hbm, 269, rfl⟩
abbrev main_v177 : Ref sig .tc := ⟨.hbm, 270, rfl⟩
abbrev main_cst_48 : Ref sig .tc := ⟨.hbm, 271, rfl⟩
abbrev main_v178 : Ref sig .tc := ⟨.hbm, 272, rfl⟩
abbrev main_cst_49 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_cst_50 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_cst_51 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_cst_52 : Ref sig .tc := ⟨.hbm, 303, rfl⟩
abbrev main_v206 : Ref sig .tc := ⟨.hbm, 304, rfl⟩
abbrev main_cst_53 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_cst_54 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_values_55 : Ref sig .tc := ⟨.hbm, 317, rfl⟩
abbrev main_indices_56 : Ref sig .tc := ⟨.hbm, 318, rfl⟩
abbrev main_cst_57 : Ref sig .tc := ⟨.hbm, 319, rfl⟩
abbrev main_v217 : Ref sig .tc := ⟨.hbm, 320, rfl⟩
abbrev main_v218 : Ref sig .tc := ⟨.hbm, 321, rfl⟩
abbrev main_cst_58 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_cst_59 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_c_60 : Ref sig .tc := ⟨.hbm, 331, rfl⟩
abbrev main_v226 : Ref sig .tc := ⟨.hbm, 332, rfl⟩
abbrev main_v227 : Ref sig .tc := ⟨.hbm, 333, rfl⟩
abbrev main_c_61 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_c_62 : Ref sig .tc := ⟨.hbm, 338, rfl⟩
abbrev main_v231 : Ref sig .tc := ⟨.hbm, 339, rfl⟩
abbrev main_v232 : Ref sig .tc := ⟨.hbm, 340, rfl⟩
abbrev main_c_63 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩
abbrev main_v236 : Ref sig .tc := ⟨.hbm, 345, rfl⟩
abbrev main_v237 : Ref sig .tc := ⟨.hbm, 346, rfl⟩
abbrev main_v238 : Ref sig .tc := ⟨.hbm, 347, rfl⟩
abbrev main_v239 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_call2_cst : Ref sig .tc := ⟨.hbm, 354, rfl⟩
abbrev main_call2_v0 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_cst_64 : Ref sig .tc := ⟨.hbm, 364, rfl⟩
abbrev main_v253 : Ref sig .tc := ⟨.hbm, 365, rfl⟩
abbrev main_cst_65 : Ref sig .tc := ⟨.hbm, 366, rfl⟩
abbrev main_v254 : Ref sig .tc := ⟨.hbm, 367, rfl⟩
abbrev main_v255 : Ref sig .tc := ⟨.hbm, 368, rfl⟩
abbrev main_cst_66 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_cst_67 : Ref sig .tc := ⟨.hbm, 373, rfl⟩
abbrev main_v259 : Ref sig .tc := ⟨.hbm, 374, rfl⟩
abbrev main_cst_68 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩
abbrev main_cst_69 : Ref sig .tc := ⟨.hbm, 379, rfl⟩
abbrev main_v263 : Ref sig .tc := ⟨.hbm, 380, rfl⟩
abbrev main_cst_70 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_v267 : Ref sig .tc := ⟨.hbm, 385, rfl⟩
abbrev main_v268 : Ref sig .tc := ⟨.hbm, 386, rfl⟩
abbrev main_v269 : Ref sig .tc := ⟨.hbm, 387, rfl⟩
abbrev main_call3_cst : Ref sig .tc := ⟨.hbm, 388, rfl⟩
abbrev main_call3_v0 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_v273 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_cst_71 : Ref sig .tc := ⟨.hbm, 397, rfl⟩
abbrev main_v277 : Ref sig .tc := ⟨.hbm, 398, rfl⟩
abbrev main_v278 : Ref sig .tc := ⟨.hbm, 399, rfl⟩
abbrev main_cst_72 : Ref sig .tc := ⟨.hbm, 400, rfl⟩
abbrev main_v279 : Ref sig .tc := ⟨.hbm, 401, rfl⟩
abbrev main_v280 : Ref sig .tc := ⟨.hbm, 402, rfl⟩
abbrev main_v281 : Ref sig .tc := ⟨.hbm, 403, rfl⟩

abbrev nD : Nat := 1
abbrev τ : Topo := Topo.v7x

variable {F : FTy → Type} [FloatOps F]
-- ==== Proof.Block.lean ====
/-
  ONE BLOCK OF ROWS. What the body computes at a grid point, from the values it has read there: the four feature columns,
  the combined projection, the two layers' keys and positions, the two layers' expert weights, the head's weights. The
  three cases of the body read these values from different places and then compute the same words, which are named here.
-/
module

public import proofs.«01_k».proof.Proof.Gen.KernelIdeal.Skeleton
public import Idealize.ShloMosaic.Lib.Pipeline.Value

@[expose] public section

noncomputable section

namespace Cert.Proof.Block

open Idealize.ShloMosaic Cert.KernelIdeal Cert.KernelIdeal.Gen

variable {F : FTy → Type} [FloatOps F] [Named F]

/-- The values a grid point computes from. -/
structure In (F : FTy → Type) where
  op : Vec F S512x1 .i32
  a : Vec F S512x1 .i32
  b : Vec F S512x1 .i32
  c : Vec F S512x1 .i32
  weff : Vec F S32x256 .f32
  key0 : Vec F S1x256x16 .f32
  key1 : Vec F S1x256x16 .f32
  tpos0 : Vec F S1x16 .f32
  tpos1 : Vec F S1x16 .f32
  w1 : Fin 16 → Vec F S1x256x512 .bf16
  w2 : Fin 16 → Vec F S1x1x512x256 .bf16
  q1 : Fin 16 → Vec F S1x256x512 .fp8e4m3
  q2 : Fin 16 → Vec F S1x512x256 .fp8e4m3
  wh1 : Vec F S256x64 .f32
  wh2 : Vec F S64x8 .f32

/-- The lane numbers of a 32-wide row. -/
def lanes32 : IVec S512x32 32 := iota Kind.tc S512x32 32 [1] iota_S512x32_d1_w32

/-- The lane numbers of a 16-wide row. -/
def lanes16 : IVec S512x16 32 := iota Kind.tc S512x16 32 [1] iota_S512x16_d1_w32

namespace In

variable (I : In F)

def opWord : IVec S512x1 32 := k0_pay46 I.op
def hotOp : FVec F S512x32 .f32 := k0_pay47 I.op
def bitsA : FVec F S512x32 .f32 := k0_pay48 I.a
def bitsB : FVec F S512x32 .f32 := k0_pay49 I.b
def coefC : FVec F S512x1 .f32 := k0_pay50 I.c
def x0 : FVec F S512x256 .f32 := k0_pay51 lanes32 I.hotOp I.bitsA I.bitsB I.coefC I.weff
def pos : FVec F S512x1 .f32 := k0_pay52 I.opWord
def p0 : FVec F S512x16 .f32 := k0_pay53 I.opWord lanes32 I.hotOp I.bitsA I.bitsB I.coefC I.weff I.key0 I.tpos0
def m0 : FVec F S512 .f32 := k0_pay54 I.opWord lanes32 I.hotOp I.bitsA I.bitsB I.coefC I.weff I.key0 I.tpos0
def m0col : FVec F S512x1 .f32 := k0_pay55 I.m0
def i00 : IVec S512x1 32 := k0_pay56 lanes16 I.p0 I.m0
def m01 : FVec F S512x1 .f32 := k0_pay58 lanes16 I.p0 I.m0
def i01 : IVec S512x1 32 := k0_pay59 lanes16 I.p0 I.m0
def m02 : FVec F S512x1 .f32 := k0_pay61 lanes16 I.p0 I.m0
def i02 : IVec S512x1 32 := k0_pay62 lanes16 I.p0 I.m0
def m03 : FVec F S512x1 .f32 := k0_pay64 lanes16 I.p0 I.m0
def i03 : IVec S512x1 32 := k0_pay65 lanes16 I.p0 I.m0
def s03 : FVec F S512x1 .f32 := k0_pay66 lanes16 I.p0 I.m0
def g0 : FVec F S512x16 .f32 := k0_pay67 lanes16 I.m0col I.i00 I.m01 I.i01 I.m02 I.i02 I.m03 I.i03 I.s03
def xh : FVec F S512x256 .bf16 := k0_pay68 I.x0
def gh : FVec F S512x16 .bf16 := k0_pay69 lanes16 I.m0col I.i00 I.m01 I.i01 I.m02 I.i02 I.m03 I.i03 I.s03
def h0 : FVec F S512x512 .bf16 := k0_pay70 I.x0 lanes16 I.m0col I.i00 I.m01 I.i01 I.m02 I.i02 I.m03 I.i03 I.s03 (I.w1 0)
def y2 : FVec F S512x256 .f32 := k0_pay71 I.xh I.gh I.h0 (I.w2 0) (I.w1 1) (I.w2 1) (I.w1 2) (I.w2 2)
def w3 : FVec F S256x512 .bf16 := k0_pay72 (I.w1 3)
def y4 : FVec F S512x256 .f32 := k0_pay73 I.xh I.gh I.y2 I.w3 (constant S512x512 FTy.f32 0#32) (I.w2 3) (I.w1 4) (I.w2 4)
def h5 : FVec F S512x512 .bf16 := k0_pay74 I.xh I.gh (I.w1 5)
def w5 : FVec F S512x256 .bf16 := k0_pay75 (I.w2 5)
def y7 : FVec F S512x256 .f32 := k0_pay76 I.xh I.gh I.y4 I.h5 I.w5 (I.w1 6) (I.w2 6) (I.w1 7) (I.w2 7)
def h8 : FVec F S512x512 .bf16 := k0_pay77 I.xh (I.w1 8)
def y10 : FVec F S512x256 .f32 := k0_pay78 I.xh I.gh I.y7 I.h8 (I.w2 8) (I.w1 9) (I.w2 9) (I.w1 10) (I.w2 10)
def y12 : FVec F S512x256 .f32 := k0_pay79 I.xh I.gh I.y10 (I.w1 11) (I.w2 11) (I.w1 12) (I.w2 12)
def h13 : FVec F S512x512 .bf16 := k0_pay80 I.xh I.gh (I.w1 13)
def x1 : FVec F S512x256 .f32 := k0_pay81 I.x0 I.xh I.gh I.y12 I.h13 (I.w2 13) (I.w1 14) (I.w2 14) (I.w1 15) (I.w2 15)
def sum0 : FVec F S1x16 .f32 := k0_pay82 I.p0
def p1 : FVec F S512x16 .f32 := k0_pay85 I.pos I.x1 I.key1 I.tpos1
def m1 : FVec F S512x1 .f32 := k0_pay86 I.pos I.x1 I.key1 I.tpos1
def i10 : IVec S512x1 32 := k0_pay87 lanes16 I.p1 I.m1
def m11 : FVec F S512x1 .f32 := k0_pay89 lanes16 I.p1 I.m1
def i11 : IVec S512x1 32 := k0_pay90 lanes16 I.p1 I.m1
def m12 : FVec F S512x1 .f32 := k0_pay92 lanes16 I.p1 I.m1
def i12 : IVec S512x1 32 := k0_pay93 lanes16 I.p1 I.m1
def m13 : FVec F S512x1 .f32 := k0_pay95 lanes16 I.p1 I.m1
def i13 : IVec S512x1 32 := k0_pay96 lanes16 I.p1 I.m1
def s13 : FVec F S512x1 .f32 := k0_pay97 lanes16 I.p1 I.m1
def g1 : FVec F S512x16 .f32 := k0_pay98 lanes16 I.m1 I.i10 I.m11 I.i11 I.m12 I.i12 I.m13 I.i13 I.s13 (FloatOps.ofBits FTy.f32 814313567#32)
def xq : FVec F S512x256 .fp8e4m3 := k0_pay99 I.x1
def gq : FVec F S512x16 .bf16 := k0_pay100 lanes16 I.m1 I.i10 I.m11 I.i11 I.m12 I.i12 I.m13 I.i13 I.s13 (FloatOps.ofBits FTy.f32 814313567#32)
def k0 : FVec F S512x512 .bf16 := k0_pay101 I.x1 (I.q1 0)
def z2 : FVec F S512x256 .f32 := k0_pay102 I.xq I.gq I.k0 (FloatOps.ofBits FTy.bf16 0#16) (I.q2 0) (I.q1 1) (I.q2 1) (I.q1 2) (I.q2 2)
def z4 : FVec F S512x256 .f32 := k0_pay103 I.xq I.gq I.z2 (I.q1 3) (I.q2 3) (I.q1 4) (I.q2 4)
def k5 : FVec F S512x512 .fp8e4m3 := k0_pay104 I.xq I.gq (I.q1 5)
def z7 : FVec F S512x256 .f32 := k0_pay105 I.xq I.gq I.z4 I.k5 (I.q2 5) (I.q1 6) (I.q2 6) (I.q1 7) (I.q2 7)
def v8 : FVec F S256x512 .fp8e4m3 := k0_pay106 (I.q1 8)
def z9 : FVec F S512x256 .f32 := k0_pay107 I.xq I.gq I.z7 I.v8 (constant S512x512 FTy.f32 0#32) (I.q2 8) (I.q1 9) (I.q2 9)
def k10 : FVec F S512x512 .fp8e4m3 := k0_pay108 I.xq I.gq (I.q1 10)
def v10 : FVec F S512x256 .fp8e4m3 := k0_pay109 (I.q2 10)
def z12 : FVec F S512x256 .f32 := k0_pay110 I.xq I.gq I.z9 I.k10 I.v10 (I.q1 11) (I.q2 11) (I.q1 12) (I.q2 12)
def k13 : FVec F S512x512 .bf16 := k0_pay111 I.xq (I.q1 13)
def z15 : FVec F S512x256 .f32 := k0_pay112 I.xq I.gq I.z12 I.k13 (I.q2 13) (I.q1 14) (I.q2 14) (I.q1 15) (I.q2 15)

/-- The block of the first result. -/
def res : FVec F S512x8 .f32 := k0_pay116 I.x1 I.z15 k0_pay113 I.wh1 I.wh2

end In

/-- Slab `e` of the 16×256×512 weights lies in them. -/
theorem slab_up (e : Fin 16) : ∀ a, (![e.val, 0, 0] : Fin 3 → ℕ) a + S1x256x512.size a ≤ S16x256x512.size a := fun a => by
  match a with
  | ⟨0, _⟩ => exact e.isLt
  | ⟨1, _⟩ => exact le_refl 256
  | ⟨2, _⟩ => exact le_refl 512

/-- Slab `e` of the 16×512×256 weights lies in them. -/
theorem slab_down (e : Fin 16) : ∀ a, (![e.val, 0, 0] : Fin 3 → ℕ) a + S1x512x256.size a ≤ S16x512x256.size a := fun a => by
  match a with
  | ⟨0, _⟩ => exact e.isLt
  | ⟨1, _⟩ => exact le_refl 512
  | ⟨2, _⟩ => exact le_refl 256

/-- Slab `e` of the first layer of the 2×16×512×256 weights lies in them. -/
theorem slab_first (e : Fin 16) : ∀ a, (![0, e.val, 0, 0] : Fin 4 → ℕ) a + S1x1x512x256.size a ≤ S2x16x512x256.size a := fun a => by
  match a with
  | ⟨0, _⟩ => exact Nat.le_succ 1
  | ⟨1, _⟩ => exact e.isLt
  | ⟨2, _⟩ => exact le_refl 512
  | ⟨3, _⟩ => exact le_refl 256

/-- What a grid point computes from, given the blocks it reads and the scratch as it stands when they are used. -/
def inOf (op a b c : Vec F S512x1 .i32) (tp : Vec F S2x16 .f32) (w2 : Vec F S2x16x512x256 .bf16) (wh1 : Vec F S256x64 .f32)
    (wh2 : Vec F S64x8 .f32) (w1b : Vec F S16x256x512 .bf16) (w1q : Vec F S16x256x512 .fp8e4m3)
    (w2q : Vec F S16x512x256 .fp8e4m3) (weff : Vec F S32x256 .f32) (keyst : Vec F S2x256x16 .f32) : In F where
  op := View.ld op (Rect.unit ![0, 0] S512x1.size inb_S512x1_S512x1_0_0)
  a := View.ld a (Rect.unit ![0, 0] S512x1.size inb_S512x1_S512x1_0_0)
  b := View.ld b (Rect.unit ![0, 0] S512x1.size inb_S512x1_S512x1_0_0)
  c := View.ld c (Rect.unit ![0, 0] S512x1.size inb_S512x1_S512x1_0_0)
  weff := View.ld weff (Rect.unit ![0, 0] S32x256.size inb_S32x256_S32x256_0_0)
  key0 := View.ld keyst (Rect.unit ![0, 0, 0] S1x256x16.size inb_S2x256x16_S1x256x16_0_0_0)
  key1 := View.ld keyst (Rect.unit ![1, 0, 0] S1x256x16.size inb_S2x256x16_S1x256x16_1_0_0)
  tpos0 := View.ld tp (Rect.unit ![0, 0] S1x16.size inb_S2x16_S1x16_0_0)
  tpos1 := View.ld tp (Rect.unit ![1, 0] S1x16.size inb_S2x16_S1x16_1_0)
  w1 := fun e => View.ld w1b (Rect.unit ![e.val, 0, 0] S1x256x512.size (slab_up e))
  w2 := fun e => View.ld w2 (Rect.unit ![0, e.val, 0, 0] S1x1x512x256.size (slab_first e))
  q1 := fun e => View.ld w1q (Rect.unit ![e.val, 0, 0] S1x256x512.size (slab_up e))
  q2 := fun e => View.ld w2q (Rect.unit ![e.val, 0, 0] S1x512x256.size (slab_down e))
  wh1 := View.ld wh1 (Rect.unit ![0, 0] S256x64.size inb_S256x64_S256x64_0_0)
  wh2 := View.ld wh2 (Rect.unit ![0, 0] S64x8.size inb_S64x8_S64x8_0_0)

/-- Stores written over contents: the last one to hold an index gives it. -/
theorem read_writes_over {sig : RefSig} {κ : Kind} {sp : Space} {s : Shape} {e : EltTy} {Val : EltTy → Type}
    (v : View sig κ sp s e) (f : v.ty.Contents Val) : ∀ L : List (View.Piece Val s e),
    v.read Val (v.writes Val f L) = L.foldr (fun p X => p.1.overlay X p.2) (v.read Val f)
  | [] => rfl
  | p :: L => by
    funext y
    rw [List.foldr_cons, ← read_writes_over v f L]
    by_cases hy : y ∈ p.1.set
    · obtain ⟨r, w⟩ := p
      obtain ⟨x, rfl⟩ : ∃ x, r.emb x = y := r.exists_idx_of_mem hy
      rw [View.read_writes_cons_emb, Rect.overlay_emb]
    · have hy' : y ∉ Finset.univ.map p.1.emb := by rwa [Rect.map_emb_univ]
      rw [View.writes_cons, View.read_slice_write_of_not_mem p.1 _ _ _ hy', Rect.overlay_of_not_mem p.1 _ _ hy]

/-- Row `0` of the auxiliary sums. -/
abbrev row0 : Rect S8x16 := Rect.unit ![0, 0] S1x16.size inb_S8x16_S1x16_0_0
/-- Row `1` of the auxiliary sums. -/
abbrev row1 : Rect S8x16 := Rect.unit ![1, 0] S1x16.size inb_S8x16_S1x16_1_0
/-- Row `2` of the auxiliary sums. -/
abbrev row2 : Rect S8x16 := Rect.unit ![2, 0] S1x16.size inb_S8x16_S1x16_2_0
/-- Row `3` of the auxiliary sums. -/
abbrev row3 : Rect S8x16 := Rect.unit ![3, 0] S1x16.size inb_S8x16_S1x16_3_0

/-- Four rows of auxiliary sums, over the sums `X` before: the probabilities and the counts of the positive gates, layer by
    layer. -/
def auxRows (s0 : FVec F S1x16 .f32) (g0 p1 g1 : FVec F S512x16 .f32) (X : Vec F S8x16 .f32) : Vec F S8x16 .f32 :=
  row3.overlay (row2.overlay (row1.overlay (row0.overlay X (k0_pay83 (View.ld X row0) s0))
    (k0_pay84 g0 (View.ld X row1))) (k0_pay114 p1 (View.ld X row2))) (k0_pay115 g1 (View.ld X row3))

/-- The auxiliary sums after a point, over the sums `X` before it. -/
def auxAfter (I : In F) (X : Vec F S8x16 .f32) : Vec F S8x16 .f32 := auxRows I.sum0 I.g0 I.p1 I.g1 X

/-- The block of the second result: the four positions of the second layer, a column each. -/
def topBlock (I : In F) : List (View.Piece (Elt F) S512x4 .i32) :=
  [⟨Rect.unit ![0, 3] S512x1.size inb_S512x4_S512x1_0_3, I.i13⟩,
   ⟨Rect.unit ![0, 2] S512x1.size inb_S512x4_S512x1_0_2, I.i12⟩,
   ⟨Rect.unit ![0, 1] S512x1.size inb_S512x4_S512x1_0_1, I.i11⟩,
   ⟨Rect.unit ![0, 0] S512x1.size inb_S512x4_S512x1_0_0, I.i10⟩]

end Cert.Proof.Block
-- ==== Proof.CaseA.lean ====
/-
  THE FIRST POINT. The body first fills the scratch (the weights at their narrow formats, the combined projection, the
  transposed keys, zeroed auxiliary rows) and then computes from the scratch as it has just filled it.
-/
module

public import proofs.«01_k».proof.Proof.Block
public import proofs.«01_k».proof.Proof.Gen.KernelIdeal.Frame
public import Idealize.ShloMosaic.Lib.Pipeline.ReadBack

@[expose] public section

noncomputable section

namespace Cert.Proof.CaseA

open Idealize.ShloMosaic Idealize.SL.Sem Cert.KernelIdeal Cert.KernelIdeal.Gen Cert.Proof.Block

variable {F : FTy → Type} [FloatOps F] [Named F]
variable (c : Dev nD) (i : grid0.Coords)
variable (arg1 : Memref sig .tc .vmem S512x1 .i32) (harg1 : arg1.IsWhole)
  (arg2 : Memref sig .tc .vmem S512x1 .i32) (harg2 : arg2.IsWhole)
  (arg3 : Memref sig .tc .vmem S512x1 .i32) (harg3 : arg3.IsWhole)
  (arg4 : Memref sig .tc .vmem S512x1 .i32) (harg4 : arg4.IsWhole)
  (arg5 : Memref sig .tc .vmem S8x32 .f32) (harg5 : arg5.IsWhole)
  (arg6 : Memref sig .tc .vmem S49x256 .f32) (harg6 : arg6.IsWhole)
  (arg7 : Memref sig .tc .vmem S2x16x256 .f32) (harg7 : arg7.IsWhole)
  (arg8 : Memref sig .tc .vmem S2x16 .f32) (harg8 : arg8.IsWhole)
  (arg9 : Memref sig .tc .vmem S2x16x256x512 .f32) (harg9 : arg9.IsWhole)
  (arg10 : Memref sig .tc .vmem S2x16x512x256 .bf16) (harg10 : arg10.IsWhole)
  (arg11 : Memref sig .tc .vmem S256x64 .f32) (harg11 : arg11.IsWhole)
  (arg12 : Memref sig .tc .vmem S64x8 .f32) (harg12 : arg12.IsWhole)
  (arg13 : Memref sig .tc .vmem S512x8 .f32) (harg13 : arg13.IsWhole)
  (arg14 : Memref sig .tc .vmem S512x4 .i32) (harg14 : arg14.IsWhole)
  (arg15 : Memref sig .tc .vmem S1x1 .f32) (harg15 : arg15.IsWhole)
  (arg16 : Memref sig .tc .vmem S16x256x512 .bf16) (harg16 : arg16.IsWhole)
  (arg17 : Memref sig .tc .vmem S16x256x512 .fp8e4m3) (harg17 : arg17.IsWhole)
  (arg18 : Memref sig .tc .vmem S16x512x256 .fp8e4m3) (harg18 : arg18.IsWhole)
  (arg19 : Memref sig .tc .vmem S32x256 .f32) (harg19 : arg19.IsWhole)
  (arg20 : Memref sig .tc .vmem S2x256x16 .f32) (harg20 : arg20.IsWhole)
  (arg21 : Memref sig .tc .vmem S8x16 .f32) (harg21 : arg21.IsWhole)
variable (hc0 : cond0_0 i) (hc1 : ¬cond0_1 i)
variable (x0 : Vec F S512x1 .i32) (x1 : Vec F S512x1 .i32) (x2 : Vec F S512x1 .i32) (x3 : Vec F S512x1 .i32) (x4 : Vec F S8x32 .f32) (x5 : Vec F S49x256 .f32) (x6 : Vec F S2x16x256 .f32) (x7 : Vec F S2x16 .f32) (x8 : Vec F S2x16x256x512 .f32) (x9 : Vec F S2x16x512x256 .bf16) (x10 : Vec F S256x64 .f32) (x11 : Vec F S64x8 .f32)

theorem hz : (![0, 0] : Fin 2 → ℕ) = fun _ => 0 := funext fun a => by fin_cases a <;> rfl

/-- A single store over the whole of the auxiliary rows is what they hold. -/
theorem canon_whole {F : FTy → Type} [FloatOps F] (h) (Z : Vec F S8x16 .f32) :
    View.canon (Val := Elt F) [⟨Rect.unit (s := S8x16) ![0, 0] S8x16.size h, Z⟩] = Z :=
  View.canon_unit_zero (S := S8x16) hz h Z

/-- A load of what the body has stored reads the stores. -/
theorem readCov_ld {F : FTy → Type} [FloatOps F] {sig : RefSig} {κ : Kind} {sp : Space} {s : Shape} {e : EltTy}
    (v : View sig κ sp s e) (L : List (View.Piece (Elt F) s e)) (r : Rect s) :
    v.readCov (Val := Elt F) L r.toLoadRect = View.ld (View.canon L) r := View.readCov_eq_canon' v L r.toLoadRect

/-- A load of one auxiliary row passes over a store to another. -/
theorem readCov_row {F : FTy → Type} [FloatOps F] {sig : RefSig} {κ : Kind} {sp : Space} (v : View sig κ sp S8x16 .f32) {i k : ℕ}
    (hi) (hk) (w) (L : List (View.Piece (Elt F) S8x16 .f32)) (h : i ≠ k) :
    v.readCov (Val := Elt F) (⟨Rect.unit (s := S8x16) ![i, 0] ![1, 16] hi, w⟩ :: L) (Rect.unit (s := S8x16) ![k, 0] ![1, 16] hk).toLoadRect
      = v.readCov L (Rect.unit (s := S8x16) ![k, 0] ![1, 16] hk).toLoadRect := by
  rw [View.readCov_eq_canon', View.readCov_eq_canon']
  funext j
  refine View.canon_cons_of_not_mem _ L fun hm => ?_
  have hm' : (Rect.unit (s := S8x16) ![k, 0] ![1, 16] hk).idx j ∈ (Rect.unit (s := S8x16) ![i, 0] ![1, 16] hi).set := hm
  rw [Rect.mem_set_unit] at hm'
  have e := hm' 0
  have hj : (j 0 : ℕ) < 1 := (j 0).isLt
  have hx : ((Rect.unit (s := S8x16) ![k, 0] ![1, 16] hk).idx j 0 : ℕ) = k + 1 * (j 0 : ℕ) := rfl
  rw [hx] at e
  have e1 : i ≤ k + 1 * (j 0 : ℕ) := e.1
  have e2 : k + 1 * (j 0 : ℕ) < i + 1 := e.2
  omega

/-- Any load after it reads it. -/
theorem readCov_whole {F : FTy → Type} [FloatOps F] {sig : RefSig} {κ : Kind} {sp : Space} (v : View sig κ sp S8x16 .f32) (h)
    (Z : Vec F S8x16 .f32) (r : Rect S8x16) :
    v.readCov (Val := Elt F) [⟨Rect.unit (s := S8x16) ![0, 0] ![8, 16] h, Z⟩] r.toLoadRect = View.ld Z r := by
  rw [View.readCov_eq_canon', canon_whole]

/-- The four rows stored over zeroed rows, each from the row as the stores before it left it. -/
theorem canon_rows {F : FTy → Type} [FloatOps F] [Named F] {sig : RefSig} {κ : Kind} {sp : Space} (v : View sig κ sp S8x16 .f32)
    (h h0 h1 h2 h3) (s0 : FVec F S1x16 .f32) (g0 p1 g1 : FVec F S512x16 .f32) (Z : Vec F S8x16 .f32)
    (L0 L1 L2 L3 : List (View.Piece (Elt F) S8x16 .f32)) (e0 : L0 = [⟨Rect.unit (s := S8x16) ![0, 0] ![8, 16] h, Z⟩])
    (e1 : L1 = ⟨Rect.unit (s := S8x16) ![0, 0] ![1, 16] h0, k0_pay83 (v.readCov L0 (Rect.unit (s := S8x16) ![0, 0] ![1, 16] h0).toLoadRect) s0⟩ :: L0)
    (e2 : L2 = ⟨Rect.unit (s := S8x16) ![1, 0] ![1, 16] h1, k0_pay84 g0 (v.readCov L1 (Rect.unit (s := S8x16) ![1, 0] ![1, 16] h1).toLoadRect)⟩ :: L1)
    (e3 : L3 = ⟨Rect.unit (s := S8x16) ![2, 0] ![1, 16] h2, k0_pay114 p1 (v.readCov L2 (Rect.unit (s := S8x16) ![2, 0] ![1, 16] h2).toLoadRect)⟩ :: L2) :
    View.canon (⟨Rect.unit (s := S8x16) ![3, 0] ![1, 16] h3, k0_pay115 g1 (v.readCov L3 (Rect.unit (s := S8x16) ![3, 0] ![1, 16] h3).toLoadRect)⟩ :: L3)
      = auxRows s0 g0 p1 g1 Z := by
  subst e0; subst e1; subst e2; subst e3
  simp only [ne_eq, OfNat.ofNat_ne_zero, OfNat.zero_ne_ofNat, zero_ne_one, one_ne_zero, OfNat.ofNat_ne_one, OfNat.one_ne_ofNat,
    Nat.reduceEqDiff, not_false_eq_true, readCov_row, readCov_whole]
  rw [View.canon_cons, View.canon_cons, View.canon_cons, View.canon_cons, canon_whole]
  rfl

/-- What the point computes from. -/
abbrev inp : In F :=
  inOf x0 x1 x2 x3 x7 x9 x10 x11
    (sout0_A_0 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11)
    (sout0_A_1 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11)
    (sout0_A_2 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11)
    (sout0_A_3 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11)
    (sout0_A_4 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11)

set_option maxHeartbeats 4000000 in
set_option maxRecDepth 100000 in
/-- The block of the first result. -/
theorem res :
    out0_A_12 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11
      = View.canon [⟨Rect.unit ![0, 0] S512x8.size inb_S512x8_S512x8_0_0, (inp c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 hc0 hc1 x0 x1 x2 x3 x4 x5 x6 x7 x8 x9 x10 x11).res⟩] := by
  unfold out0_A_12 inp sout0_A_0 sout0_A_1 sout0_A_2 sout0_A_3 sout0_A_4
  simp only [View.read_writes_junk_eq_canon]
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread, readCov_ld]
  dsimp only [inOf, auxAfter, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

set_option maxHeartbeats 4000000 in
set_option maxRecDepth 100000 in
/-- The block of the second result. -/
theorem topi :
    out0_A_13 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11
      = View.canon (topBlock (inp c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 hc0 hc1 x0 x1 x2 x3 x4 x5 x6 x7 x8 x9 x10 x11)) := by
  unfold out0_A_13 inp sout0_A_0 sout0_A_1 sout0_A_2 sout0_A_3 sout0_A_4
  simp only [View.read_writes_junk_eq_canon]
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread, readCov_ld]
  dsimp only [inOf, auxAfter, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

set_option maxHeartbeats 4000000 in
set_option maxRecDepth 100000 in
/-- The auxiliary sums after the point. -/
theorem aux :
    sout0_A_5 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11
      = auxAfter (inp c i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 arg19 harg19 arg20 harg20 arg21 harg21 hc0 hc1 x0 x1 x2 x3 x4 x5 x6 x7 x8 x9 x10 x11) (k0_pay45 (FloatOps.ofBits FTy.f32 0#32)) := by
  unfold sout0_A_5 inp sout0_A_0 sout0_A_1 sout0_A_2 sout0_A_3 sout0_A_4
  simp only [View.read_writes_junk_eq_canon]
  unfold kernelRun0_A
  dsimp only
  sl_unfold_words
  refine (canon_rows _ _ _ _ _ _ _ _ _ _ _ _ _ _ _ rfl rfl rfl rfl).trans ?_
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread, readCov_ld]
  dsimp only [inOf, auxAfter, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

end Cert.Proof.CaseA
-- ==== Proof.CaseB.lean ====
/-
  THE MIDDLE POINTS. At a grid point that is neither first nor last the body reads the scratch as the point before left it,
  stores the two result blocks and adds to the four auxiliary rows.
-/
module

public import proofs.«01_k».proof.Proof.Block
public import proofs.«01_k».proof.Proof.Gen.KernelIdeal.Frame

@[expose] public section

noncomputable section

namespace Cert.Proof.CaseB

open Idealize.ShloMosaic Idealize.SL.Sem Cert.KernelIdeal Cert.KernelIdeal.Gen Cert.Proof.Block

variable {F : FTy → Type} [FloatOps F] [Named F]
variable (c : Dev nD) (i : grid0.Coords)
variable (arg1 : Memref sig .tc .vmem S512x1 .i32) (harg1 : arg1.IsWhole)
  (arg2 : Memref sig .tc .vmem S512x1 .i32) (harg2 : arg2.IsWhole)
  (arg3 : Memref sig .tc .vmem S512x1 .i32) (harg3 : arg3.IsWhole)
  (arg4 : Memref sig .tc .vmem S512x1 .i32) (harg4 : arg4.IsWhole)
  (arg5 : Memref sig .tc .vmem S8x32 .f32) (harg5 : arg5.IsWhole)
  (arg6 : Memref sig .tc .vmem S49x256 .f32) (harg6 : arg6.IsWhole)
  (arg7 : Memref sig .tc .vmem S2x16x256 .f32) (harg7 : arg7.IsWhole)
  (arg8 : Memref sig .tc .vmem S2x16 .f32) (harg8 : arg8.IsWhole)
  (arg9 : Memref sig .tc .vmem S2x16x256x512 .f32) (harg9 : arg9.IsWhole)
  (arg10 : Memref sig .tc .vmem S2x16x512x256 .bf16) (harg10 : arg10.IsWhole)
  (arg11 : Memref sig .tc .vmem S256x64 .f32) (harg11 : arg11.IsWhole)
  (arg12 : Memref sig .tc .vmem S64x8 .f32) (harg12 : arg12.IsWhole)
  (arg13 : Memref sig .tc .vmem S512x8 .f32) (harg13 : arg13.IsWhole)
  (arg14 : Memref sig .tc .vmem S512x4 .i32) (harg14 : arg14.IsWhole)
  (arg15 : Memref sig .tc .vmem S1x1 .f32) (harg15 : arg15.IsWhole)
  (arg16 : Memref sig .tc .vmem S16x256x512 .bf16) (harg16 : arg16.IsWhole)
  (arg17 : Memref sig .tc .vmem S16x256x512 .fp8e4m3) (harg17 : arg17.IsWhole)
  (arg18 : Memref sig .tc .vmem S16x512x256 .fp8e4m3) (harg18 : arg18.IsWhole)
  (arg19 : Memref sig .tc .vmem S32x256 .f32) (harg19 : arg19.IsWhole)
  (arg20 : Memref sig .tc .vmem S2x256x16 .f32) (harg20 : arg20.IsWhole)
  (arg21 : Memref sig .tc .vmem S8x16 .f32) (harg21 : arg21.IsWhole)
variable (hc0 : ¬cond0_0 i) (hc1 : ¬cond0_1 i)
variable (x0 : Vec F S512x1 .i32) (x1 : Vec F S512x1 .i32) (x2 : Vec F S512x1 .i32) (x3 : Vec F S512x1 .i32) (x4 : Vec F S8x32 .f32) (x5 : Vec F S49x256 .f32) (x6 : Vec F S2x16x256 .f32) (x7 : Vec F S2x16 .f32) (x8 : Vec F S2x16x256x512 .f32) (x9 : Vec F S2x16x512x256 .bf16) (x10 : Vec F S256x64 .f32) (x11 : Vec F S64x8 .f32) (xs0 : Vec F S16x256x512 .bf16) (xs1 : Vec F S16x256x512 .fp8e4m3) (xs2 : Vec F S16x512x256 .fp8e4m3) (xs3 : Vec F S32x256 .f32) (xs4 : Vec F S2x256x16 .f32) (xs5 : Vec F S8x16 .f32)

/-- What the point computes from. -/
abbrev inp : In F :=
  inOf x0 x1 x2 x3 x7 x9 x10 x11 xs0 xs1 xs2 xs3 xs4

set_option maxHeartbeats 4000000 in
set_option maxRecDepth 100000 in
/-- The block of the first result. -/
theorem res :
    out0_B_12 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11 xs0 xs1 xs2 xs3 xs4 xs5
      = View.canon [⟨Rect.unit ![0, 0] S512x8.size inb_S512x8_S512x8_0_0, (inp x0 x1 x2 x3 x7 x9 x10 x11 xs0 xs1 xs2 xs3 xs4).res⟩] := by
  unfold out0_B_12
  rw [View.read_writes_junk_eq_canon]
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread]
  dsimp only [inp, inOf, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

set_option maxHeartbeats 4000000 in
set_option maxRecDepth 100000 in
/-- The block of the second result. -/
theorem topi :
    out0_B_13 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11 xs0 xs1 xs2 xs3 xs4 xs5
      = View.canon (topBlock (inp x0 x1 x2 x3 x7 x9 x10 x11 xs0 xs1 xs2 xs3 xs4)) := by
  unfold out0_B_13
  rw [View.read_writes_junk_eq_canon]
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread]
  dsimp only [inp, inOf, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

set_option maxHeartbeats 4000000 in
set_option maxRecDepth 100000 in
/-- The auxiliary sums after the point. -/
theorem aux :
    sout0_B_5 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11 xs0 xs1 xs2 xs3 xs4 xs5
      = auxAfter (inp x0 x1 x2 x3 x7 x9 x10 x11 xs0 xs1 xs2 xs3 xs4) xs5 := by
  unfold sout0_B_5 auxAfter auxRows
  rw [read_writes_over]
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread]
  dsimp only [inp, inOf, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

end Cert.Proof.CaseB
-- ==== Proof.CaseC.lean ====
/-
  THE LAST POINT. As the middle points; and the third result is stored, from the auxiliary rows just completed.
-/
module

public import proofs.«01_k».proof.Proof.Block
public import proofs.«01_k».proof.Proof.Gen.KernelIdeal.Frame

@[expose] public section

noncomputable section

namespace Cert.Proof.CaseC

open Idealize.ShloMosaic Idealize.SL.Sem Cert.KernelIdeal Cert.KernelIdeal.Gen Cert.Proof.Block

variable {F : FTy → Type} [FloatOps F] [Named F]
variable (c : Dev nD) (i : grid0.Coords)
variable (arg1 : Memref sig .tc .vmem S512x1 .i32) (harg1 : arg1.IsWhole)
  (arg2 : Memref sig .tc .vmem S512x1 .i32) (harg2 : arg2.IsWhole)
  (arg3 : Memref sig .tc .vmem S512x1 .i32) (harg3 : arg3.IsWhole)
  (arg4 : Memref sig .tc .vmem S512x1 .i32) (harg4 : arg4.IsWhole)
  (arg5 : Memref sig .tc .vmem S8x32 .f32) (harg5 : arg5.IsWhole)
  (arg6 : Memref sig .tc .vmem S49x256 .f32) (harg6 : arg6.IsWhole)
  (arg7 : Memref sig .tc .vmem S2x16x256 .f32) (harg7 : arg7.IsWhole)
  (arg8 : Memref sig .tc .vmem S2x16 .f32) (harg8 : arg8.IsWhole)
  (arg9 : Memref sig .tc .vmem S2x16x256x512 .f32) (harg9 : arg9.IsWhole)
  (arg10 : Memref sig .tc .vmem S2x16x512x256 .bf16) (harg10 : arg10.IsWhole)
  (arg11 : Memref sig .tc .vmem S256x64 .f32) (harg11 : arg11.IsWhole)
  (arg12 : Memref sig .tc .vmem S64x8 .f32) (harg12 : arg12.IsWhole)
  (arg13 : Memref sig .tc .vmem S512x8 .f32) (harg13 : arg13.IsWhole)
  (arg14 : Memref sig .tc .vmem S512x4 .i32) (harg14 : arg14.IsWhole)
  (arg15 : Memref sig .tc .vmem S1x1 .f32) (harg15 : arg15.IsWhole)
  (arg16 : Memref sig .tc .vmem S16x256x512 .bf16) (harg16 : arg16.IsWhole)
  (arg17 : Memref sig .tc .vmem S16x256x512 .fp8e4m3) (harg17 : arg17.IsWhole)
  (arg18 : Memref sig .tc .vmem S16x512x256 .fp8e4m3) (harg18 : arg18.IsWhole)
  (arg19 : Memref sig .tc .vmem S32x256 .f32) (harg19 : arg19.IsWhole)
  (arg20 : Memref sig .tc .vmem S2x256x16 .f32) (harg20 : arg20.IsWhole)
  (arg21 : Memref sig .tc .vmem S8x16 .f32) (harg21 : arg21.IsWhole)
variable (hc0 : ¬cond0_0 i) (hc1 : cond0_1 i)
variable (x0 : Vec F S512x1 .i32) (x1 : Vec F S512x1 .i32) (x2 : Vec F S512x1 .i32) (x3 : Vec F S512x1 .i32) (x4 : Vec F S8x32 .f32) (x5 : Vec F S49x256 .f32) (x6 : Vec F S2x16x256 .f32) (x7 : Vec F S2x16 .f32) (x8 : Vec F S2x16x256x512 .f32) (x9 : Vec F S2x16x512x256 .bf16) (x10 : Vec F S256x64 .f32) (x11 : Vec F S64x8 .f32) (xs0 : Vec F S16x256x512 .bf16) (xs1 : Vec F S16x256x512 .fp8e4m3) (xs2 : Vec F S16x512x256 .fp8e4m3) (xs3 : Vec F S32x256 .f32) (xs4 : Vec F S2x256x16 .f32) (xs5 : Vec F S8x16 .f32)

/-- What the point computes from. -/
abbrev inp : In F :=
  inOf x0 x1 x2 x3 x7 x9 x10 x11 xs0 xs1 xs2 xs3 xs4

set_option maxHeartbeats 4000000 in
set_option maxRecDepth 100000 in
/-- The block of the first result. -/
theorem res :
    out0_C_12 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11 xs0 xs1 xs2 xs3 xs4 xs5
      = View.canon [⟨Rect.unit ![0, 0] S512x8.size inb_S512x8_S512x8_0_0, (inp x0 x1 x2 x3 x7 x9 x10 x11 xs0 xs1 xs2 xs3 xs4).res⟩] := by
  unfold out0_C_12
  rw [View.read_writes_junk_eq_canon]
  unfold kernelRun0_C
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread]
  dsimp only [inp, inOf, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

set_option maxHeartbeats 4000000 in
set_option maxRecDepth 100000 in
/-- The block of the second result. -/
theorem topi :
    out0_C_13 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11 xs0 xs1 xs2 xs3 xs4 xs5
      = View.canon (topBlock (inp x0 x1 x2 x3 x7 x9 x10 x11 xs0 xs1 xs2 xs3 xs4)) := by
  unfold out0_C_13
  rw [View.read_writes_junk_eq_canon]
  unfold kernelRun0_C
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread]
  dsimp only [inp, inOf, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

set_option maxHeartbeats 4000000 in
set_option maxRecDepth 100000 in
/-- The auxiliary sums after the point. -/
theorem aux :
    sout0_C_5 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11 xs0 xs1 xs2 xs3 xs4 xs5
      = auxAfter (inp x0 x1 x2 x3 x7 x9 x10 x11 xs0 xs1 xs2 xs3 xs4) xs5 := by
  unfold sout0_C_5 auxAfter auxRows
  rw [read_writes_over]
  unfold kernelRun0_C
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread]
  dsimp only [inp, inOf, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

set_option maxHeartbeats 4000000 in
set_option maxRecDepth 100000 in
/-- The third result. -/
theorem total :
    out0_C_14 c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 hc0 hc1 x0 x1 x2 x3 x4 x5 x6 x7 x8 x9 x10 x11 xs0 xs1 xs2 xs3 xs4 xs5
      = View.canon [⟨Rect.unit ![0, 0] S1x1.size inb_S1x1_S1x1_0_0,
          k0_pay1 (View.ld (auxAfter (inp x0 x1 x2 x3 x7 x9 x10 x11 xs0 xs1 xs2 xs3 xs4) xs5) (Rect.unit ![0, 0] S8x16.size inb_S8x16_S8x16_0_0))⟩] := by
  unfold out0_C_14 auxAfter auxRows
  rw [View.read_writes_junk_eq_canon]
  unfold kernelRun0_C
  dsimp only
  sl_unfold_words
  simp only [View.readAt_eq_ld, harg1.read_unread, harg2.read_unread, harg3.read_unread, harg4.read_unread, harg5.read_unread, harg6.read_unread,
    harg7.read_unread, harg8.read_unread, harg9.read_unread, harg10.read_unread, harg11.read_unread,
    harg12.read_unread, harg16.read_unread, harg17.read_unread, harg18.read_unread, harg19.read_unread,
    harg20.read_unread, harg21.read_unread, read_writes_over]
  dsimp only [inp, inOf, lanes16, lanes32, topBlock,
    In.opWord, In.hotOp, In.bitsA, In.bitsB, In.coefC, In.x0, In.pos, In.p0, In.m0, In.m0col, In.i00, In.m01, In.i01,
    In.m02, In.i02, In.m03, In.i03, In.s03, In.g0, In.xh, In.gh, In.h0, In.y2, In.w3, In.y4, In.h5, In.w5, In.y7,
    In.h8, In.y10, In.y12, In.h13, In.x1, In.sum0, In.p1, In.m1, In.i10, In.m11, In.i11, In.m12, In.i12, In.m13,
    In.i13, In.s13, In.g1, In.xq, In.gq, In.k0, In.z2, In.z4, In.k5, In.z7, In.v8, In.z9, In.k10, In.v10, In.z12,
    In.k13, In.z15, In.res]
  rfl

end Cert.Proof.CaseC
-- ==== Proof.Points.lean ====
/-
  THE GRID. What each point leaves is the body's block value at what the point reads: its own block of the index columns, the
  weights, and the scratch the first point filled, which no later point changes.
-/
module

public import proofs.«01_k».proof.Proof.CaseA
public import proofs.«01_k».proof.Proof.CaseB
public import proofs.«01_k».proof.Proof.CaseC
public import proofs.«01_k».proof.Proof.Gen.KernelIdeal.Value

@[expose] public section

noncomputable section

namespace Cert.Proof.Points

open Idealize.ShloMosaic Idealize.SL.Sem Cert.KernelIdeal Cert.KernelIdeal.Gen Cert.Proof.Block

variable (m : (ℓ : Loc nD τ sig) → Buf (Elt Ideal) ℓ) (c : Dev nD)

theorem first_lt : 0 < cfg0.N := lt_of_lt_of_eq (by decide) N_0.symm

theorem lt_eight (t : Fin cfg0.N) : t.val < 8 := lt_of_lt_of_eq t.isLt (show cfg0.N = 8 from N_0)

/-- The scratch the first point fills. -/
def w1b : Vec Ideal S16x256x512 .bf16 := (outsAt0 m c 0 first_lt).2.2.2.1
def w1q : Vec Ideal S16x256x512 .fp8e4m3 := (outsAt0 m c 0 first_lt).2.2.2.2.1
def w2q : Vec Ideal S16x512x256 .fp8e4m3 := (outsAt0 m c 0 first_lt).2.2.2.2.2.1
def weff : Vec Ideal S32x256 .f32 := (outsAt0 m c 0 first_lt).2.2.2.2.2.2.1
def keyst : Vec Ideal S2x256x16 .f32 := (outsAt0 m c 0 first_lt).2.2.2.2.2.2.2.1

/-- What point `t` computes from. -/
def inAt (t : Fin cfg0.N) : In Ideal :=
  inOf (iblk m c 0 t) (iblk m c 1 t) (iblk m c 2 t) (iblk m c 3 t) (iblk m c 7 t) (iblk m c 9 t) (iblk m c 10 t)
    (iblk m c 11 t) (w1b m c) (w1q m c) (w2q m c) (weff m c) (keyst m c)

/-- The scratch beside the sums, of what a point leaves. -/
def Kept (o : Vec Ideal S512x8 .f32 × Vec Ideal S512x4 .i32 × Vec Ideal S1x1 .f32 × Vec Ideal S16x256x512 .bf16 × Vec Ideal S16x256x512 .fp8e4m3 × Vec Ideal S16x512x256 .fp8e4m3 × Vec Ideal S32x256 .f32 × Vec Ideal S2x256x16 .f32 × Vec Ideal S8x16 .f32) : Prop :=
  o.2.2.2.1 = w1b m c ∧ o.2.2.2.2.1 = w1q m c ∧ o.2.2.2.2.2.1 = w2q m c ∧ o.2.2.2.2.2.2.1 = weff m c ∧ o.2.2.2.2.2.2.2.1 = keyst m c

set_option maxHeartbeats 1000000 in
/-- No point after the first changes it. -/
theorem kept : ∀ (n : ℕ) (hn : n < cfg0.N), Kept m c (outsAt0 m c n hn)
  | 0, _ => ⟨rfl, rfl, rfl, rfl, rfl⟩
  | n + 1, hn => by
    have ih := kept n (Nat.lt_of_succ_lt hn)
    have h8 : n + 1 < 8 := lt_eight ⟨n + 1, hn⟩
    have h0 : ¬(n + 1) % 8 = 0 := by omega
    by_cases h1 : (n + 1) % 8 = 7
    · rw [outsAt0_C m c ⟨n + 1, hn⟩ h0 h1]
      exact ih
    · rw [outsAt0_B m c ⟨n + 1, hn⟩ h0 h1]
      exact ih

/-- The four values a point leaves, in terms of the sums the point before left. -/
structure Leaves (o : Vec Ideal S512x8 .f32 × Vec Ideal S512x4 .i32 × Vec Ideal S1x1 .f32 × Vec Ideal S16x256x512 .bf16 × Vec Ideal S16x256x512 .fp8e4m3 × Vec Ideal S16x512x256 .fp8e4m3 × Vec Ideal S32x256 .f32 × Vec Ideal S2x256x16 .f32 × Vec Ideal S8x16 .f32)
    (I : In Ideal) (X : Vec Ideal S8x16 .f32) : Prop where
  res : o.1 = View.canon [⟨Rect.unit ![0, 0] S512x8.size inb_S512x8_S512x8_0_0, I.res⟩]
  topi : o.2.1 = View.canon (topBlock I)
  aux : o.2.2.2.2.2.2.2.2 = auxAfter I X

set_option maxHeartbeats 1000000 in
theorem leaves_first : Leaves (outsAt0 m c 0 first_lt) (inAt m c ⟨0, first_lt⟩) (k0_pay45 (FloatOps.ofBits FTy.f32 0#32) : FVec Ideal S8x16 .f32) := by
  unfold inAt w1b w1q w2q weff keyst
  rw [outsAt0_A m c ⟨0, first_lt⟩ rfl (show ¬0 % 8 = 7 by decide)]
  refine ⟨?_, ?_, ?_⟩ <;> dsimp only
  · exact CaseA.res (F := Ideal) ..
  · exact CaseA.topi (F := Ideal) ..
  · exact CaseA.aux (F := Ideal) ..

set_option maxHeartbeats 1000000 in
theorem leaves_next (n : ℕ) (hn : n + 1 < cfg0.N) :
    Leaves (outsAt0 m c (n + 1) hn) (inAt m c ⟨n + 1, hn⟩) (outsAt0 m c n (Nat.lt_of_succ_lt hn)).2.2.2.2.2.2.2.2 := by
  obtain ⟨e0, e1, e2, e3, e4⟩ := kept m c n (Nat.lt_of_succ_lt hn)
  have h8 : n + 1 < 8 := lt_eight ⟨n + 1, hn⟩
  have h0 : ¬(n + 1) % 8 = 0 := by omega
  unfold inAt
  rw [← e0, ← e1, ← e2, ← e3, ← e4]
  by_cases h1 : (n + 1) % 8 = 7
  · rw [outsAt0_C m c ⟨n + 1, hn⟩ h0 h1]
    refine ⟨?_, ?_, ?_⟩ <;> dsimp only
    · exact CaseC.res ..
    · exact CaseC.topi ..
    · exact CaseC.aux (F := Ideal) ..
  · rw [outsAt0_B m c ⟨n + 1, hn⟩ h0 h1]
    refine ⟨?_, ?_, ?_⟩ <;> dsimp only
    · exact CaseB.res ..
    · exact CaseB.topi ..
    · exact CaseB.aux (F := Ideal) ..

set_option maxHeartbeats 1000000 in
/-- What the last point leaves for the third result. -/
theorem leaves_total (hn : 7 < cfg0.N) :
    (outsAt0 m c 7 hn).2.2.1 = View.canon [⟨Rect.unit ![0, 0] S1x1.size inb_S1x1_S1x1_0_0,
      k0_pay1 (View.ld (outsAt0 m c 7 hn).2.2.2.2.2.2.2.2 (Rect.unit ![0, 0] S8x16.size inb_S8x16_S8x16_0_0))⟩] := by
  rw [(leaves_next m c 6 hn).aux]
  obtain ⟨e0, e1, e2, e3, e4⟩ := kept m c 6 (Nat.lt_of_succ_lt hn)
  unfold inAt
  rw [← e0, ← e1, ← e2, ← e3, ← e4]
  rw [outsAt0_C m c ⟨7, hn⟩ (show ¬7 % 8 = 0 by decide) rfl]
  dsimp only
  exact CaseC.total (F := Ideal) ..

end Cert.Proof.Points
-- ==== Proof.Consts.lean ====
/-
  The float constants that the two programs print, as the reals they denote.
-/
module

public import Idealize.ShloMosaic.PureOps.Ideal.Laws

@[expose] public section

noncomputable section

namespace Cert.Proof.Consts

open Idealize.ShloMosaic

theorem zero_f32 : Ideal.ofBits .f32 0x00000000#32 = 0 := by
  simp [Ideal.ofBits, Ideal.ieee]

theorem zero_bf16 : Ideal.ofBits .bf16 0x0000#16 = 0 := by
  simp [Ideal.ofBits, Ideal.ieee]

theorem negInf : Ideal.ofBits .f32 0xFF800000#32 = ⊥ := by
  simp [Ideal.ofBits, Ideal.ieee]

theorem posInf : Ideal.ofBits .f32 0x7F800000#32 = ⊤ := by
  simp [Ideal.ofBits, Ideal.ieee]

theorem one_f32 : Ideal.ofBits .f32 0x3F800000#32 = 1 := by
  have : Ideal.ofBits .f32 0x3F800000#32 = ((1 : ℝ) : EReal) := by
    simp [Ideal.ofBits, Ideal.ieee, -EReal.coe_mul]; norm_num
  rw [this]; rfl

theorem two_f32 : Ideal.ofBits .f32 0x40000000#32 = ((2 : ℝ) : EReal) := by
  simp [Ideal.ofBits, Ideal.ieee, -EReal.coe_mul]; norm_num

theorem eight_f32 : Ideal.ofBits .f32 0x41000000#32 = ((8 : ℝ) : EReal) := by
  simp [Ideal.ofBits, Ideal.ieee, -EReal.coe_mul]; norm_num

theorem sixteen_f32 : Ideal.ofBits .f32 0x41800000#32 = ((16 : ℝ) : EReal) := by
  simp [Ideal.ofBits, Ideal.ieee, -EReal.coe_mul]; norm_num

theorem sixteenth_f32 : Ideal.ofBits .f32 0x3D800000#32 = ((1 / 16 : ℝ) : EReal) := by
  simp [Ideal.ofBits, Ideal.ieee, -EReal.coe_mul]; norm_num

theorem two56_f32 : Ideal.ofBits .f32 0x43800000#32 = ((256 : ℝ) : EReal) := by
  simp [Ideal.ofBits, Ideal.ieee, -EReal.coe_mul]; norm_num

theorem four_half_f32 : Ideal.ofBits .f32 0x40900000#32 = ((9 / 2 : ℝ) : EReal) := by
  simp [Ideal.ofBits, Ideal.ieee, -EReal.coe_mul]; norm_num

theorem rows_f32 : Ideal.ofBits .f32 0x45800000#32 = ((4096 : ℝ) : EReal) := by
  simp [Ideal.ofBits, Ideal.ieee, -EReal.coe_mul]; norm_num

theorem scale_f32 : Ideal.ofBits .f32 0x35800000#32 = ((1 / 1048576 : ℝ) : EReal) := by
  simp [Ideal.ofBits, Ideal.ieee, -EReal.coe_mul]; norm_num

/-- The constant that keeps the gates' denominator off zero is a positive real. -/
theorem eps_f32 : ∃ r : ℝ, 0 < r ∧ Ideal.ofBits .f32 0x3089705F#32 = (r : EReal) := by
  refine ⟨9007199 * 2 ^ (-53 : ℤ), by positivity, ?_⟩
  simp [Ideal.ofBits, Ideal.ieee, -EReal.coe_mul]

end Cert.Proof.Consts
-- ==== Proof.Pieces.lean ====
/-
  THE STORES OF THE FIRST POINT. The first point fills five scratch buffers: the first layer's first weights, the second
  layer's first and second weights slab by slab, the combined projection and the transposed keys. Index by index, each is
  the argument it was made of.
-/
module

public import proofs.«01_k».proof.Proof.Block
public import proofs.«01_k».proof.Proof.Consts
public import Idealize.ShloMosaic.Lib.Pointwise

@[expose] public section

noncomputable section

namespace Cert.Proof.Pieces

open Idealize.ShloMosaic Idealize.SL.Sem Cert.KernelIdeal Cert.KernelIdeal.Gen Cert.Proof.Block Cert.Proof.Consts

/-- A slab of the second layer's first weights lies in them. -/
theorem up_inb (e : Fin 16) : ∀ a, (![1, e.val, 0, 0] : Fin 4 → ℕ) a + S1x1x256x512.size a ≤ S2x16x256x512.size a := fun a => by
  match a with
  | ⟨0, _⟩ => exact le_refl 2
  | ⟨1, _⟩ => exact e.isLt
  | ⟨2, _⟩ => exact le_refl 256
  | ⟨3, _⟩ => exact le_refl 512

/-- A slab of the second layer's second weights lies in them. -/
theorem down_inb (e : Fin 16) : ∀ a, (![1, e.val, 0, 0] : Fin 4 → ℕ) a + S1x1x512x256.size a ≤ S2x16x512x256.size a := fun a => by
  match a with
  | ⟨0, _⟩ => exact le_refl 2
  | ⟨1, _⟩ => exact e.isLt
  | ⟨2, _⟩ => exact le_refl 512
  | ⟨3, _⟩ => exact le_refl 256

/-- The sixteen slabs, the last one stored first in the list. -/
def slabNumbers : List (Fin 16) := [⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

theorem mem_slabNumbers (e : Fin 16) : e ∈ slabNumbers := by revert e; decide

/-- A slab of first weights, narrowed. -/
def upSlab (v : Vec Ideal S1x1x256x512 .f32) : Vec Ideal S1x256x512 .fp8e4m3 :=
  shapeCast S1x256x512 (truncf (F := Ideal) .fp8e4m3 (shapeCast S256x512 v shapeCasts_S1x1x256x512_S256x512) bitsLt_fp8e4m3_f32)
    shapeCasts_S256x512_S1x256x512

theorem upSlab_apply (v : Vec Ideal S1x1x256x512 .f32) (u : Fin 1) (d : Fin 256) (f : Fin 512) :
    upSlab v (ix3 u d f) = v (ix4 0 0 d f) := by
  unfold upSlab; pointwise

/-- A slab of second weights, narrowed. -/
def downSlab (v : Vec Ideal S1x1x512x256 .bf16) : Vec Ideal S1x512x256 .fp8e4m3 :=
  shapeCast S1x512x256 (truncf (F := Ideal) .fp8e4m3 (shapeCast S512x256 v shapeCasts_S1x1x512x256_S512x256) bitsLt_fp8e4m3_bf16)
    shapeCasts_S512x256_S1x512x256

theorem downSlab_apply (v : Vec Ideal S1x1x512x256 .bf16) (u : Fin 1) (f : Fin 512) (d : Fin 256) :
    downSlab v (ix3 u f d) = v (ix4 0 0 f d) := by
  unfold downSlab; pointwise

/-- The stores of the second layer's first weights. -/
def upPiece (x8 : Vec Ideal S2x16x256x512 .f32) (e : Fin 16) : View.Piece (Elt Ideal) S16x256x512 .fp8e4m3 :=
  ⟨Rect.unit ![e.val, 0, 0] S1x256x512.size (slab_up e), upSlab (View.ld x8 (Rect.unit ![1, e.val, 0, 0] S1x1x256x512.size (up_inb e)))⟩

/-- The stores of the second layer's second weights. -/
def downPiece (x9 : Vec Ideal S2x16x512x256 .bf16) (e : Fin 16) : View.Piece (Elt Ideal) S16x512x256 .fp8e4m3 :=
  ⟨Rect.unit ![e.val, 0, 0] S1x512x256.size (slab_down e), downSlab (View.ld x9 (Rect.unit ![1, e.val, 0, 0] S1x1x512x256.size (down_inb e)))⟩

theorem upPiece_apply (x8 : Vec Ideal S2x16x256x512 .f32) (e : Fin 16) (x : S1x256x512.Idx) :
    upSlab (View.ld x8 (Rect.unit ![1, e.val, 0, 0] S1x1x256x512.size (up_inb e))) x
      = (fun y : S16x256x512.Idx => (x8 (ix4 1 (y 0) (y 1) (y 2)) : EReal)) ((Rect.unit (s := S16x256x512) ![e.val, 0, 0] S1x256x512.size (slab_up e)).emb x) := by
  have hx : (x 0).val < 1 := (x 0).isLt
  have h1 : ∀ v, upSlab v x = v (ix4 0 0 (x 1) (x 2)) := fun v =>
    (congrArg (upSlab v) (eq_ix3 (n0 := 1) x)).trans (upSlab_apply v (x 0) (x 1) (x 2))
  have h2 : (Rect.unit (s := S2x16x256x512) ![1, e.val, 0, 0] S1x1x256x512.size (up_inb e)).idx (ix4 0 0 (x 1) (x 2))
      = ix4 1 ((Rect.unit (s := S16x256x512) ![e.val, 0, 0] S1x256x512.size (slab_up e)).emb x 0)
        ((Rect.unit (s := S16x256x512) ![e.val, 0, 0] S1x256x512.size (slab_up e)).emb x 1)
        ((Rect.unit (s := S16x256x512) ![e.val, 0, 0] S1x256x512.size (slab_up e)).emb x 2) := by
    funext k
    refine Fin.ext ?_
    match k with
    | ⟨0, _⟩ => rfl
    | ⟨1, _⟩ => show e.val + 1 * 0 = e.val + 1 * (x 0).val; omega
    | ⟨2, _⟩ => rfl
    | ⟨3, _⟩ => rfl
  exact (h1 _).trans (congrArg x8 h2)

theorem canon_up (x8 : Vec Ideal S2x16x256x512 .f32) (t : Fin 16) (d : Fin 256) (f : Fin 512) :
    View.canon (slabNumbers.map (upPiece x8)) (ix3 t d f) = x8 (ix4 1 t d f) := by
  refine View.canon_apply_of_pieces (Val := Elt Ideal) (e := .fp8e4m3) (fun y : S16x256x512.Idx => x8 (ix4 1 (y 0) (y 1) (y 2))) _ ?_ _ ?_
  · intro p hp
    obtain ⟨e, -, rfl⟩ := List.mem_map.mp hp
    exact upPiece_apply x8 e
  · refine ⟨upPiece x8 t, List.mem_map.mpr ⟨t, mem_slabNumbers t, rfl⟩, ?_⟩
    unfold upPiece
    rw [Rect.mem_set_unit]
    intro a
    match a with
    | ⟨0, _⟩ => exact ⟨le_refl t.val, Nat.lt_succ_self t.val⟩
    | ⟨1, _⟩ => exact ⟨Nat.zero_le _, by show d.val < 0 + 256; omega⟩
    | ⟨2, _⟩ => exact ⟨Nat.zero_le _, by show f.val < 0 + 512; omega⟩

theorem downPiece_apply (x9 : Vec Ideal S2x16x512x256 .bf16) (e : Fin 16) (x : S1x512x256.Idx) :
    downSlab (View.ld x9 (Rect.unit ![1, e.val, 0, 0] S1x1x512x256.size (down_inb e))) x
      = (fun y : S16x512x256.Idx => (x9 (ix4 1 (y 0) (y 1) (y 2)) : EReal)) ((Rect.unit (s := S16x512x256) ![e.val, 0, 0] S1x512x256.size (slab_down e)).emb x) := by
  have hx : (x 0).val < 1 := (x 0).isLt
  have h1 : ∀ v, downSlab v x = v (ix4 0 0 (x 1) (x 2)) := fun v =>
    (congrArg (downSlab v) (eq_ix3 (n0 := 1) x)).trans (downSlab_apply v (x 0) (x 1) (x 2))
  have h2 : (Rect.unit (s := S2x16x512x256) ![1, e.val, 0, 0] S1x1x512x256.size (down_inb e)).idx (ix4 0 0 (x 1) (x 2))
      = ix4 1 ((Rect.unit (s := S16x512x256) ![e.val, 0, 0] S1x512x256.size (slab_down e)).emb x 0)
        ((Rect.unit (s := S16x512x256) ![e.val, 0, 0] S1x512x256.size (slab_down e)).emb x 1)
        ((Rect.unit (s := S16x512x256) ![e.val, 0, 0] S1x512x256.size (slab_down e)).emb x 2) := by
    funext k
    refine Fin.ext ?_
    match k with
    | ⟨0, _⟩ => rfl
    | ⟨1, _⟩ => show e.val + 1 * 0 = e.val + 1 * (x 0).val; omega
    | ⟨2, _⟩ => rfl
    | ⟨3, _⟩ => rfl
  exact (h1 _).trans (congrArg x9 h2)

theorem canon_down (x9 : Vec Ideal S2x16x512x256 .bf16) (t : Fin 16) (f : Fin 512) (d : Fin 256) :
    View.canon (slabNumbers.map (downPiece x9)) (ix3 t f d) = x9 (ix4 1 t f d) := by
  refine View.canon_apply_of_pieces (Val := Elt Ideal) (e := .fp8e4m3) (fun y : S16x512x256.Idx => x9 (ix4 1 (y 0) (y 1) (y 2))) _ ?_ _ ?_
  · intro p hp
    obtain ⟨e, -, rfl⟩ := List.mem_map.mp hp
    exact downPiece_apply x9 e
  · refine ⟨downPiece x9 t, List.mem_map.mpr ⟨t, mem_slabNumbers t, rfl⟩, ?_⟩
    unfold downPiece
    rw [Rect.mem_set_unit]
    intro a
    match a with
    | ⟨0, _⟩ => exact ⟨le_refl t.val, Nat.lt_succ_self t.val⟩
    | ⟨1, _⟩ => exact ⟨Nat.zero_le _, by show f.val < 0 + 512; omega⟩
    | ⟨2, _⟩ => exact ⟨Nat.zero_le _, by show d.val < 0 + 256; omega⟩

/-- The combined projection's last eight rows: the projection's last row, eight times. -/
def weffBias (v : Vec Ideal S1x256 .f32) : Vec Ideal S8x256 .f32 :=
  shapeCast S8x256 (broadcastTo S8x256 (shapeCast S1x256 v shapeCasts_S1x256_S1x256) broadcasts_S1x256_S8x256) shapeCasts_S8x256_S8x256

/-- Eight rows of the projection. -/
def weffCopy (v : Vec Ideal S8x256 .f32) : Vec Ideal S8x256 .f32 := shapeCast S8x256 v shapeCasts_S8x256_S8x256

/-- The combined projection's first eight rows: the embeddings, projected. -/
def weffHead (e : FVec Ideal S8x32 .f32) (v : FVec Ideal S32x256 .f32) : Vec Ideal S8x256 .f32 :=
  shapeCast S8x256 (matmul (F := Ideal) dot_S8x32_S32x256_S8x256_1_0_0_1_n_n none e v (constant S8x256 FTy.f32 0#32)) shapeCasts_S8x256_S8x256

theorem weffBias_apply (v : Vec Ideal S1x256 .f32) (k : Fin 8) (d : Fin 256) : weffBias v (ix2 k d) = v (ix2 0 d) := by
  unfold weffBias; pointwise
theorem weffCopy_apply (v : Vec Ideal S8x256 .f32) (k : Fin 8) (d : Fin 256) : weffCopy v (ix2 k d) = v (ix2 k d) := by
  unfold weffCopy; pointwise
theorem weffHead_apply (e : Vec Ideal S8x32 .f32) (v : Vec Ideal S32x256 .f32) (k : Fin 8) (d : Fin 256) :
    weffHead e v (ix2 k d) = ∑ j : Fin 32, e (ix2 k j) * v (ix2 j d) := by
  unfold weffHead; pointwise

/-- The combined projection's stores. -/
def weffPieces (x4 : Vec Ideal S8x32 .f32) (x5 : Vec Ideal S49x256 .f32) : List (View.Piece (Elt Ideal) S32x256 .f32) :=
  [⟨Rect.unit ![24, 0] S8x256.size inb_S32x256_S8x256_24_0, weffBias (View.ld x5 (Rect.unit ![48, 0] S1x256.size inb_S49x256_S1x256_48_0))⟩,
   ⟨Rect.unit ![16, 0] S8x256.size inb_S32x256_S8x256_16_0, weffCopy (View.ld x5 (Rect.unit ![40, 0] S8x256.size inb_S49x256_S8x256_40_0))⟩,
   ⟨Rect.unit ![8, 0] S8x256.size inb_S32x256_S8x256_8_0, weffCopy (View.ld x5 (Rect.unit ![32, 0] S8x256.size inb_S49x256_S8x256_32_0))⟩,
   ⟨Rect.unit ![0, 0] S8x256.size inb_S32x256_S8x256_0_0, weffHead (View.ld x4 (Rect.unit ![0, 0] S8x32.size inb_S8x32_S8x32_0_0))
      (View.ld x5 (Rect.unit ![0, 0] S32x256.size inb_S49x256_S32x256_0_0))⟩]

section Band

variable {α : Type} (n : ℕ) (h : ∀ a, (![n, 0] : Fin 2 → ℕ) a + S8x256.size a ≤ S32x256.size a) (w : Vec Ideal S8x256 .f32)
  (L : List (View.Piece (Elt Ideal) S32x256 .f32)) (x : Fin 32) (d : Fin 256)

/-- In the band stored last. -/
theorem band_hit (k : Fin 8) (hk : x.val = n + k.val) :
    View.canon (⟨Rect.unit (s := S32x256) ![n, 0] S8x256.size h, w⟩ :: L) (ix2 x d) = w (ix2 k d) := by
  have e : (Rect.unit (s := S32x256) ![n, 0] S8x256.size h).emb (ix2 k d) = ix2 x d := by
    funext a
    refine Fin.ext ?_
    match a with
    | ⟨0, _⟩ => show n + 1 * k.val = x.val; omega
    | ⟨1, _⟩ => show 0 + 1 * d.val = d.val; omega
  rw [← e, View.canon_cons_emb]

/-- Outside the band stored last. -/
theorem band_miss (hk : x.val < n ∨ n + 8 ≤ x.val) :
    View.canon (⟨Rect.unit (s := S32x256) ![n, 0] S8x256.size h, w⟩ :: L) (ix2 x d) = View.canon L (ix2 x d) := by
  refine View.canon_cons_of_not_mem _ L fun hm => ?_
  rw [Rect.mem_set_unit] at hm
  have h0 : n ≤ x.val ∧ x.val < n + 8 := hm 0
  omega

end Band

section Weff

variable (x4 : Vec Ideal S8x32 .f32) (x5 : Vec Ideal S49x256 .f32) (k : Fin 8) (d : Fin 256)

theorem weff_head : View.canon (weffPieces x4 x5) (ix2 ⟨k.val, by omega⟩ d)
    = ∑ j : Fin 32, x4 (ix2 k j) * x5 (ix2 ⟨j.val, by omega⟩ d) := by
  unfold weffPieces
  rw [band_miss 24 _ _ _ _ _ (Or.inl (by show k.val < 24; omega)), band_miss 16 _ _ _ _ _ (Or.inl (by show k.val < 16; omega)),
    band_miss 8 _ _ _ _ _ (Or.inl (by show k.val < 8; omega)), band_hit 0 _ _ _ _ _ k (by show k.val = 0 + k.val; omega), weffHead_apply]
  refine Finset.sum_congr rfl fun j _ => congrArg₂ (fun y z : EReal => y * z) (congrArg x4 (funext fun a => Fin.ext ?_))
    (congrArg x5 (funext fun a => Fin.ext ?_))
  · match a with
    | ⟨0, _⟩ => show 0 + 1 * k.val = k.val; omega
    | ⟨1, _⟩ => show 0 + 1 * j.val = j.val; omega
  · match a with
    | ⟨0, _⟩ => show 0 + 1 * j.val = j.val; omega
    | ⟨1, _⟩ => show 0 + 1 * d.val = d.val; omega

theorem weff_a : View.canon (weffPieces x4 x5) (ix2 ⟨8 + k.val, by omega⟩ d) = x5 (ix2 ⟨32 + k.val, by omega⟩ d) := by
  unfold weffPieces
  rw [band_miss 24 _ _ _ _ _ (Or.inl (by show 8 + k.val < 24; omega)), band_miss 16 _ _ _ _ _ (Or.inl (by show 8 + k.val < 16; omega)),
    band_hit 8 _ _ _ _ _ k rfl, weffCopy_apply]
  refine congrArg x5 (funext fun a => Fin.ext ?_)
  match a with
  | ⟨0, _⟩ => show 32 + 1 * k.val = 32 + k.val; omega
  | ⟨1, _⟩ => show 0 + 1 * d.val = d.val; omega

theorem weff_b : View.canon (weffPieces x4 x5) (ix2 ⟨16 + k.val, by omega⟩ d) = x5 (ix2 ⟨40 + k.val, by omega⟩ d) := by
  unfold weffPieces
  rw [band_miss 24 _ _ _ _ _ (Or.inl (by show 16 + k.val < 24; omega)), band_hit 16 _ _ _ _ _ k rfl, weffCopy_apply]
  refine congrArg x5 (funext fun a => Fin.ext ?_)
  match a with
  | ⟨0, _⟩ => show 40 + 1 * k.val = 40 + k.val; omega
  | ⟨1, _⟩ => show 0 + 1 * d.val = d.val; omega

theorem weff_c : View.canon (weffPieces x4 x5) (ix2 ⟨24, by omega⟩ d) = x5 (ix2 ⟨48, by omega⟩ d) := by
  unfold weffPieces
  rw [band_hit 24 _ _ _ _ _ 0 rfl, weffBias_apply]
  refine congrArg x5 (funext fun a => Fin.ext ?_)
  match a with
  | ⟨0, _⟩ => rfl
  | ⟨1, _⟩ => show 0 + 1 * d.val = d.val; omega

end Weff

/-- A layer's keys, transposed. -/
def keySlab (v : Vec Ideal S1x16x256 .f32) : Vec Ideal S1x256x16 .f32 :=
  shapeCast S1x256x16 (transpose S256x16 [1, 0] (shapeCast S16x256 v shapeCasts_S1x16x256_S16x256) transposes_S16x256_p1_0_S256x16)
    shapeCasts_S256x16_S1x256x16

theorem keySlab_apply (v : Vec Ideal S1x16x256 .f32) (u : Fin 1) (d : Fin 256) (t : Fin 16) :
    keySlab v (ix3 u d t) = v (ix3 0 t d) := by
  unfold keySlab; pointwise

/-- The transposed keys' stores. -/
def keyPieces (x6 : Vec Ideal S2x16x256 .f32) : List (View.Piece (Elt Ideal) S2x256x16 .f32) :=
  [⟨Rect.unit ![1, 0, 0] S1x256x16.size inb_S2x256x16_S1x256x16_1_0_0, keySlab (View.ld x6 (Rect.unit ![1, 0, 0] S1x16x256.size inb_S2x16x256_S1x16x256_1_0_0))⟩,
   ⟨Rect.unit ![0, 0, 0] S1x256x16.size inb_S2x256x16_S1x256x16_0_0_0, keySlab (View.ld x6 (Rect.unit ![0, 0, 0] S1x16x256.size inb_S2x16x256_S1x16x256_0_0_0))⟩]

theorem canon_keys (x6 : Vec Ideal S2x16x256 .f32) (l : Fin 2) (d : Fin 256) (t : Fin 16) :
    View.canon (keyPieces x6) (ix3 l d t) = x6 (ix3 l t d) := by
  refine View.canon_apply_of_pieces (Val := Elt Ideal) (e := .f32) (fun y : S2x256x16.Idx => x6 (ix3 (y 0) (y 2) (y 1))) _ ?_ _ ?_
  · unfold keyPieces
    simp only [List.forall_mem_cons, List.not_mem_nil, false_imp_iff, implies_true, and_true]
    refine ⟨fun x => ?_, fun x => ?_⟩ <;>
    · change S1x256x16.Idx at x
      have h0 : (x 0).val < 1 := (x 0).isLt
      rw [eq_ix3 x]
      refine (keySlab_apply _ _ _ _).trans ?_
      refine congrArg x6 (funext fun k => Fin.ext ?_)
      match k with
      | ⟨0, _⟩ => first | (show 1 + 1 * 0 = 1 + 1 * (x 0).val; omega) | (show 0 + 1 * 0 = 0 + 1 * (x 0).val; omega)
      | ⟨1, _⟩ => rfl
      | ⟨2, _⟩ => rfl
  · have hl : l = 1 ∨ l = 0 := by omega
    rcases hl with rfl | rfl
    · refine ⟨_, List.mem_cons_self, ?_⟩
      rw [Rect.mem_set_unit]
      intro a
      match a with
      | ⟨0, _⟩ => exact ⟨le_refl 1, Nat.lt_succ_self 1⟩
      | ⟨1, _⟩ => exact ⟨Nat.zero_le _, by show d.val < 0 + 256; omega⟩
      | ⟨2, _⟩ => exact ⟨Nat.zero_le _, by show t.val < 0 + 16; omega⟩
    · refine ⟨_, List.mem_cons_of_mem _ List.mem_cons_self, ?_⟩
      rw [Rect.mem_set_unit]
      intro a
      match a with
      | ⟨0, _⟩ => exact ⟨le_refl 0, Nat.lt_succ_self 0⟩
      | ⟨1, _⟩ => exact ⟨Nat.zero_le _, by show d.val < 0 + 256; omega⟩
      | ⟨2, _⟩ => exact ⟨Nat.zero_le _, by show t.val < 0 + 16; omega⟩

end Cert.Proof.Pieces
-- ==== Proof.Prepare.lean ====
/-
  THE SCRATCH AFTER THE FIRST POINT. Index by index, each of the five buffers the first point fills is the argument it was
  made of.
-/
module

public import proofs.«01_k».proof.Proof.CaseA
public import proofs.«01_k».proof.Proof.Pieces

@[expose] public section

noncomputable section

namespace Cert.Proof.Prepare

open Idealize.ShloMosaic Idealize.SL.Sem Cert.KernelIdeal Cert.KernelIdeal.Gen Cert.Proof.Block Cert.Proof.Pieces

variable (c : Dev nD) (i : grid0.Coords)
variable (arg1 : Memref sig .tc .vmem S512x1 .i32) (harg1 : arg1.IsWhole)
  (arg2 : Memref sig .tc .vmem S512x1 .i32) (harg2 : arg2.IsWhole)
  (arg3 : Memref sig .tc .vmem S512x1 .i32) (harg3 : arg3.IsWhole)
  (arg4 : Memref sig .tc .vmem S512x1 .i32) (harg4 : arg4.IsWhole)
  (arg5 : Memref sig .tc .vmem S8x32 .f32) (harg5 : arg5.IsWhole)
  (arg6 : Memref sig .tc .vmem S49x256 .f32) (harg6 : arg6.IsWhole)
  (arg7 : Memref sig .tc .vmem S2x16x256 .f32) (harg7 : arg7.IsWhole)
  (arg8 : Memref sig .tc .vmem S2x16 .f32) (harg8 : arg8.IsWhole)
  (arg9 : Memref sig .tc .vmem S2x16x256x512 .f32) (harg9 : arg9.IsWhole)
  (arg10 : Memref sig .tc .vmem S2x16x512x256 .bf16) (harg10 : arg10.IsWhole)
  (arg11 : Memref sig .tc .vmem S256x64 .f32) (harg11 : arg11.IsWhole)
  (arg12 : Memref sig .tc .vmem S64x8 .f32) (harg12 : arg12.IsWhole)
  (arg13 : Memref sig .tc .vmem S512x8 .f32) (harg13 : arg13.IsWhole)
  (arg14 : Memref sig .tc .vmem S512x4 .i32) (harg14 : arg14.IsWhole)
  (arg15 : Memref sig .tc .vmem S1x1 .f32) (harg15 : arg15.IsWhole)
  (arg16 : Memref sig .tc .vmem S16x256x512 .bf16) (harg16 : arg16.IsWhole)
  (arg17 : Memref sig .tc .vmem S16x256x512 .fp8e4m3) (harg17 : arg17.IsWhole)
  (arg18 : Memref sig .tc .vmem S16x512x256 .fp8e4m3) (harg18 : arg18.IsWhole)
  (arg19 : Memref sig .tc .vmem S32x256 .f32) (harg19 : arg19.IsWhole)
  (arg20 : Memref sig .tc .vmem S2x256x16 .f32) (harg20 : arg20.IsWhole)
  (arg21 : Memref sig .tc .vmem S8x16 .f32) (harg21 : arg21.IsWhole)
variable (hc0 : cond0_0 i) (hc1 : ¬cond0_1 i)
variable (x0 : Vec Ideal S512x1 .i32) (x1 : Vec Ideal S512x1 .i32) (x2 : Vec Ideal S512x1 .i32) (x3 : Vec Ideal S512x1 .i32) (x4 : Vec Ideal S8x32 .f32) (x5 : Vec Ideal S49x256 .f32) (x6 : Vec Ideal S2x16x256 .f32) (x7 : Vec Ideal S2x16 .f32) (x8 : Vec Ideal S2x16x256x512 .f32) (x9 : Vec Ideal S2x16x512x256 .bf16) (x10 : Vec Ideal S256x64 .f32) (x11 : Vec Ideal S64x8 .f32)

set_option maxHeartbeats 4000000 in
set_option maxRecDepth 100000 in
/-- The first layer's first weights. -/
theorem w1b (t : Fin 16) (d : Fin 256) (f : Fin 512) :
    sout0_A_0 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 arg20 harg20 arg21 harg21 hc0 hc1 x0 x1 x2 x3 x4 x5 x6 x7 x8 x9 x10 x11 (ix3 t d f)
      = x8 (ix4 0 t d f) := by
  unfold sout0_A_0
  simp only [View.read_writes_junk_eq_canon]
  unfold kernelRun0_A
  dsimp only
  sl_unfold_words
  simp only [View.readAt_eq_ld, harg5.read_unread, harg6.read_unread, harg7.read_unread, harg9.read_unread, harg10.read_unread]
  refine View.canon_apply_of_pieces (Val := Elt Ideal) (e := .bf16) (fun y : S16x256x512.Idx => x8 (ix4 0 (y 0) (y 1) (y 2))) _ ?_ _ ?_
  · intro p hp
    obtain rfl := List.mem_singleton.mp hp
    intro x
    change S16x256x512.Idx at x
    rw [eq_ix3 x]
    pointwise
    refine congrArg x8 (funext fun k => Fin.ext ?_)
    match k with
    | ⟨0, _⟩ => rfl
    | ⟨1, _⟩ => show (x 0).val = 0 + 1 * (x 0).val; omega
    | ⟨2, _⟩ => show (x 1).val = 0 + 1 * (x 1).val; omega
    | ⟨3, _⟩ => show (x 2).val = 0 + 1 * (x 2).val; omega
  · refine ⟨_, List.mem_singleton.mpr rfl, ?_⟩
    rw [Rect.mem_set_unit]
    intro a
    match a with
    | ⟨0, _⟩ => exact ⟨Nat.zero_le _, by show t.val < 0 + 16; omega⟩
    | ⟨1, _⟩ => exact ⟨Nat.zero_le _, by show d.val < 0 + 256; omega⟩
    | ⟨2, _⟩ => exact ⟨Nat.zero_le _, by show f.val < 0 + 512; omega⟩

set_option maxHeartbeats 4000000 in
set_option maxRecDepth 100000 in
/-- The second layer's first weights. -/
theorem w1q (t : Fin 16) (d : Fin 256) (f : Fin 512) :
    sout0_A_1 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 arg20 harg20 arg21 harg21 hc0 hc1 x0 x1 x2 x3 x4 x5 x6 x7 x8 x9 x10 x11 (ix3 t d f)
      = x8 (ix4 1 t d f) := by
  unfold sout0_A_1
  simp only [View.read_writes_junk_eq_canon]
  unfold kernelRun0_A
  dsimp only
  sl_unfold_words
  simp only [View.readAt_eq_ld, harg5.read_unread, harg6.read_unread, harg7.read_unread, harg9.read_unread, harg10.read_unread]
  refine Eq.trans ?_ (canon_up x8 t d f)
  dsimp only [slabNumbers, List.map, upPiece, upSlab]

set_option maxHeartbeats 4000000 in
set_option maxRecDepth 100000 in
/-- The second layer's second weights. -/
theorem w2q (t : Fin 16) (f : Fin 512) (d : Fin 256) :
    sout0_A_2 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 arg20 harg20 arg21 harg21 hc0 hc1 x0 x1 x2 x3 x4 x5 x6 x7 x8 x9 x10 x11 (ix3 t f d)
      = x9 (ix4 1 t f d) := by
  unfold sout0_A_2
  simp only [View.read_writes_junk_eq_canon]
  unfold kernelRun0_A
  dsimp only
  sl_unfold_words
  simp only [View.readAt_eq_ld, harg5.read_unread, harg6.read_unread, harg7.read_unread, harg9.read_unread, harg10.read_unread]
  refine Eq.trans ?_ (canon_down x9 t f d)
  dsimp only [slabNumbers, List.map, downPiece, downSlab]

set_option maxHeartbeats 4000000 in
set_option maxRecDepth 100000 in
/-- The combined projection's stores. -/
theorem weff_eq :
    sout0_A_3 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 arg20 harg20 arg21 harg21 hc0 hc1 x0 x1 x2 x3 x4 x5 x6 x7 x8 x9 x10 x11
      = View.canon (weffPieces x4 x5) := by
  unfold sout0_A_3
  simp only [View.read_writes_junk_eq_canon]
  unfold kernelRun0_A
  dsimp only
  sl_unfold_words
  simp only [View.readAt_eq_ld, harg5.read_unread, harg6.read_unread, harg7.read_unread, harg9.read_unread, harg10.read_unread]
  dsimp only [weffPieces, weffBias, weffHead, weffCopy]

set_option maxHeartbeats 4000000 in
set_option maxRecDepth 100000 in
/-- The transposed keys' stores. -/
theorem keyst_eq :
    sout0_A_4 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 arg20 harg20 arg21 harg21 hc0 hc1 x0 x1 x2 x3 x4 x5 x6 x7 x8 x9 x10 x11
      = View.canon (keyPieces x6) := by
  unfold sout0_A_4
  simp only [View.read_writes_junk_eq_canon]
  unfold kernelRun0_A
  dsimp only
  sl_unfold_words
  simp only [View.readAt_eq_ld, harg5.read_unread, harg6.read_unread, harg7.read_unread, harg9.read_unread, harg10.read_unread]
  dsimp only [keyPieces, keySlab]

end Cert.Proof.Prepare
-- ==== Proof.Entry.lean ====
/-
  THE BLOCKS THE POINTS READ. Point t's row r of the four index columns is row 512 t + r of the argument; the weights' blocks
  are the weights, whole, at every point.
-/
module

public import proofs.«01_k».proof.Proof.Gen.KernelIdeal.Value
public import Idealize.ShloMosaic.Lib.Pointwise

@[expose] public section

noncomputable section

namespace Cert.Proof.Entry

open Idealize.ShloMosaic Idealize.SL.Sem Cert.KernelIdeal Cert.KernelIdeal.Gen

variable (m : (ℓ : Loc nD τ sig) → Buf (Elt Ideal) ℓ) (c : Dev nD)

/-- Argument 0, as launched. -/
abbrev arg0 : Vec Ideal S4096 .i32 := m ((c.tc : Thread nD τ).loc main_arg0)

/-- Argument 1, as launched. -/
abbrev arg1 : Vec Ideal S4096 .i32 := m ((c.tc : Thread nD τ).loc main_arg1)

/-- Argument 2, as launched. -/
abbrev arg2 : Vec Ideal S4096 .i32 := m ((c.tc : Thread nD τ).loc main_arg2)

/-- Argument 3, as launched. -/
abbrev arg3 : Vec Ideal S4096 .i32 := m ((c.tc : Thread nD τ).loc main_arg3)

/-- Argument 4, as launched. -/
abbrev arg4 : Vec Ideal S8x32 .f32 := m ((c.tc : Thread nD τ).loc main_arg4)

/-- Argument 5, as launched. -/
abbrev arg5 : Vec Ideal S49x256 .f32 := m ((c.tc : Thread nD τ).loc main_arg5)

/-- Argument 7, as launched. -/
abbrev arg7 : Vec Ideal S2x16x256 .f32 := m ((c.tc : Thread nD τ).loc main_arg7)

/-- Argument 8, as launched. -/
abbrev arg8 : Vec Ideal S2x16 .f32 := m ((c.tc : Thread nD τ).loc main_arg8)

/-- Argument 9, as launched. -/
abbrev arg9 : Vec Ideal S2x16x256x512 .f32 := m ((c.tc : Thread nD τ).loc main_arg9)

/-- Argument 11, as launched. -/
abbrev arg11 : Vec Ideal S2x16x512x256 .f32 := m ((c.tc : Thread nD τ).loc main_arg11)

/-- Argument 13, as launched. -/
abbrev arg13 : Vec Ideal S256x64 .f32 := m ((c.tc : Thread nD τ).loc main_arg13)

/-- Argument 15, as launched. -/
abbrev arg15 : Vec Ideal S64x8 .f32 := m ((c.tc : Thread nD τ).loc main_arg15)

/-- Row `r` of point `t`'s block, in the whole array. -/
def rowOf (t : Fin cfg0.N) (r : Fin 512) : Fin 4096 :=
  ⟨512 * t.val + r.val, by have h : t.val < 8 := lt_of_lt_of_eq t.isLt (show cfg0.N = 8 from N_0); omega⟩

/-- The column of op the points read is the argument, one word a row. -/
theorem column0 (R : Fin 4096) : (V m c main_v0 : S4096x1.Idx → BitVec 32) (ix2 R 0) = arg0 m c (ix1 R) := by
  have h : (V m c main_v0 : S4096x1.Idx → BitVec 32) = shapeCast S4096x1 (arg0 m c) shapeCasts_S4096_S4096x1 := by
    show StableHlo.after hostOps0 _ (Proc.devRef .tc main_v0) = _
    after_results
    rfl
  rw [h]
  pointwise

/-- The block of op at point `t`. -/
theorem col0 (t : Fin cfg0.N) (r : Fin 512) :
    (iblk m c 0 t : Vec Ideal S512x1 .i32) (ix2 r 0) = arg0 m c (ix1 (rowOf t r)) := by
  have hi : win0_0.index t 0 = t.val ∧ win0_0.index t 1 = 0 :=
    (by decide +kernel : ∀ t : Fin grid0.N, win0_0.index t (0 : Fin 2) = t.val ∧ win0_0.index t (1 : Fin 2) = 0) t
  rw [← column0]
  unfold iblk
  rw [View.read_apply]
  show V m c main_v0 _ = V m c main_v0 _
  refine congrArg _ ?_
  funext a
  apply Fin.ext
  match a with
  | ⟨0, _⟩ => show win0_0.index t 0 * 512 + 1 * r.val = 512 * t.val + r.val; rw [hi.1]; omega
  | ⟨1, _⟩ => show win0_0.index t 1 * 1 + 1 * 0 = 0; rw [hi.2]

/-- The column of a the points read is the argument, one word a row. -/
theorem column1 (R : Fin 4096) : (V m c main_v1 : S4096x1.Idx → BitVec 32) (ix2 R 0) = arg1 m c (ix1 R) := by
  have h : (V m c main_v1 : S4096x1.Idx → BitVec 32) = shapeCast S4096x1 (arg1 m c) shapeCasts_S4096_S4096x1 := by
    show StableHlo.after hostOps0 _ (Proc.devRef .tc main_v1) = _
    after_results
    rfl
  rw [h]
  pointwise

/-- The block of a at point `t`. -/
theorem col1 (t : Fin cfg0.N) (r : Fin 512) :
    (iblk m c 1 t : Vec Ideal S512x1 .i32) (ix2 r 0) = arg1 m c (ix1 (rowOf t r)) := by
  have hi : win0_1.index t 0 = t.val ∧ win0_1.index t 1 = 0 :=
    (by decide +kernel : ∀ t : Fin grid0.N, win0_1.index t (0 : Fin 2) = t.val ∧ win0_1.index t (1 : Fin 2) = 0) t
  rw [← column1]
  unfold iblk
  rw [View.read_apply]
  show V m c main_v1 _ = V m c main_v1 _
  refine congrArg _ ?_
  funext a
  apply Fin.ext
  match a with
  | ⟨0, _⟩ => show win0_1.index t 0 * 512 + 1 * r.val = 512 * t.val + r.val; rw [hi.1]; omega
  | ⟨1, _⟩ => show win0_1.index t 1 * 1 + 1 * 0 = 0; rw [hi.2]

/-- The column of b the points read is the argument, one word a row. -/
theorem column2 (R : Fin 4096) : (V m c main_v2 : S4096x1.Idx → BitVec 32) (ix2 R 0) = arg2 m c (ix1 R) := by
  have h : (V m c main_v2 : S4096x1.Idx → BitVec 32) = shapeCast S4096x1 (arg2 m c) shapeCasts_S4096_S4096x1 := by
    show StableHlo.after hostOps0 _ (Proc.devRef .tc main_v2) = _
    after_results
    rfl
  rw [h]
  pointwise

/-- The block of b at point `t`. -/
theorem col2 (t : Fin cfg0.N) (r : Fin 512) :
    (iblk m c 2 t : Vec Ideal S512x1 .i32) (ix2 r 0) = arg2 m c (ix1 (rowOf t r)) := by
  have hi : win0_2.index t 0 = t.val ∧ win0_2.index t 1 = 0 :=
    (by decide +kernel : ∀ t : Fin grid0.N, win0_2.index t (0 : Fin 2) = t.val ∧ win0_2.index t (1 : Fin 2) = 0) t
  rw [← column2]
  unfold iblk
  rw [View.read_apply]
  show V m c main_v2 _ = V m c main_v2 _
  refine congrArg _ ?_
  funext a
  apply Fin.ext
  match a with
  | ⟨0, _⟩ => show win0_2.index t 0 * 512 + 1 * r.val = 512 * t.val + r.val; rw [hi.1]; omega
  | ⟨1, _⟩ => show win0_2.index t 1 * 1 + 1 * 0 = 0; rw [hi.2]

/-- The column of c the points read is the argument, one word a row. -/
theorem column3 (R : Fin 4096) : (V m c main_v3 : S4096x1.Idx → BitVec 32) (ix2 R 0) = arg3 m c (ix1 R) := by
  have h : (V m c main_v3 : S4096x1.Idx → BitVec 32) = shapeCast S4096x1 (arg3 m c) shapeCasts_S4096_S4096x1 := by
    show StableHlo.after hostOps0 _ (Proc.devRef .tc main_v3) = _
    after_results
    rfl
  rw [h]
  pointwise

/-- The block of c at point `t`. -/
theorem col3 (t : Fin cfg0.N) (r : Fin 512) :
    (iblk m c 3 t : Vec Ideal S512x1 .i32) (ix2 r 0) = arg3 m c (ix1 (rowOf t r)) := by
  have hi : win0_3.index t 0 = t.val ∧ win0_3.index t 1 = 0 :=
    (by decide +kernel : ∀ t : Fin grid0.N, win0_3.index t (0 : Fin 2) = t.val ∧ win0_3.index t (1 : Fin 2) = 0) t
  rw [← column3]
  unfold iblk
  rw [View.read_apply]
  show V m c main_v3 _ = V m c main_v3 _
  refine congrArg _ ?_
  funext a
  apply Fin.ext
  match a with
  | ⟨0, _⟩ => show win0_3.index t 0 * 512 + 1 * r.val = 512 * t.val + r.val; rw [hi.1]; omega
  | ⟨1, _⟩ => show win0_3.index t 1 * 1 + 1 * 0 = 0; rw [hi.2]

/-- The second weights as the points read them are the argument: the format change is the identity here. -/
theorem converted : (V m c main_v4 : S2x16x512x256.Idx → EReal) = arg11 m c := by
  show StableHlo.after hostOps0 _ (Proc.devRef .tc main_v4) = _
  after_results
  rfl

/-- Operand 4 is read whole. -/
theorem whole4 (t : Fin cfg0.N) : (iblk m c 4 t : S8x32.Idx → EReal) = arg4 m c := by
  obtain ⟨h0, h1⟩ :=
    (by decide +kernel : ∀ t : Fin grid0.N, win0_4.index t (0 : Fin 2) = 0 ∧ win0_4.index t (1 : Fin 2) = 0) t
  refine Eq.trans ?_ (V_main_arg4 m c)
  funext j
  unfold iblk
  rw [View.read_apply]
  show V m c main_arg4 _ = V m c main_arg4 _
  refine congrArg _ ?_
  funext a
  apply Fin.ext
  match a with
  | ⟨0, _⟩ => show win0_4.index t 0 * 8 + 1 * (j 0).val = (j 0).val; rw [h0]; omega
  | ⟨1, _⟩ => show win0_4.index t 1 * 32 + 1 * (j 1).val = (j 1).val; rw [h1]; omega

/-- Operand 5 is read whole. -/
theorem whole5 (t : Fin cfg0.N) : (iblk m c 5 t : S49x256.Idx → EReal) = arg5 m c := by
  obtain ⟨h0, h1⟩ :=
    (by decide +kernel : ∀ t : Fin grid0.N, win0_5.index t (0 : Fin 2) = 0 ∧ win0_5.index t (1 : Fin 2) = 0) t
  refine Eq.trans ?_ (V_main_arg5 m c)
  funext j
  unfold iblk
  rw [View.read_apply]
  show V m c main_arg5 _ = V m c main_arg5 _
  refine congrArg _ ?_
  funext a
  apply Fin.ext
  match a with
  | ⟨0, _⟩ => show win0_5.index t 0 * 49 + 1 * (j 0).val = (j 0).val; rw [h0]; omega
  | ⟨1, _⟩ => show win0_5.index t 1 * 256 + 1 * (j 1).val = (j 1).val; rw [h1]; omega

/-- Operand 6 is read whole. -/
theorem whole6 (t : Fin cfg0.N) : (iblk m c 6 t : S2x16x256.Idx → EReal) = arg7 m c := by
  obtain ⟨h0, h1, h2⟩ :=
    (by decide +kernel : ∀ t : Fin grid0.N, win0_6.index t (0 : Fin 3) = 0 ∧ win0_6.index t (1 : Fin 3) = 0 ∧ win0_6.index t (2 : Fin 3) = 0) t
  refine Eq.trans ?_ (V_main_arg7 m c)
  funext j
  unfold iblk
  rw [View.read_apply]
  show V m c main_arg7 _ = V m c main_arg7 _
  refine congrArg _ ?_
  funext a
  apply Fin.ext
  match a with
  | ⟨0, _⟩ => show win0_6.index t 0 * 2 + 1 * (j 0).val = (j 0).val; rw [h0]; omega
  | ⟨1, _⟩ => show win0_6.index t 1 * 16 + 1 * (j 1).val = (j 1).val; rw [h1]; omega
  | ⟨2, _⟩ => show win0_6.index t 2 * 256 + 1 * (j 2).val = (j 2).val; rw [h2]; omega

/-- Operand 7 is read whole. -/
theorem whole7 (t : Fin cfg0.N) : (iblk m c 7 t : S2x16.Idx → EReal) = arg8 m c := by
  obtain ⟨h0, h1⟩ :=
    (by decide +kernel : ∀ t : Fin grid0.N, win0_7.index t (0 : Fin 2) = 0 ∧ win0_7.index t (1 : Fin 2) = 0) t
  refine Eq.trans ?_ (V_main_arg8 m c)
  funext j
  unfold iblk
  rw [View.read_apply]
  show V m c main_arg8 _ = V m c main_arg8 _
  refine congrArg _ ?_
  funext a
  apply Fin.ext
  match a with
  | ⟨0, _⟩ => show win0_7.index t 0 * 2 + 1 * (j 0).val = (j 0).val; rw [h0]; omega
  | ⟨1, _⟩ => show win0_7.index t 1 * 16 + 1 * (j 1).val = (j 1).val; rw [h1]; omega

/-- Operand 8 is read whole. -/
theorem whole8 (t : Fin cfg0.N) : (iblk m c 8 t : S2x16x256x512.Idx → EReal) = arg9 m c := by
  obtain ⟨h0, h1, h2, h3⟩ :=
    (by decide +kernel : ∀ t : Fin grid0.N, win0_8.index t (0 : Fin 4) = 0 ∧ win0_8.index t (1 : Fin 4) = 0 ∧ win0_8.index t (2 : Fin 4) = 0 ∧ win0_8.index t (3 : Fin 4) = 0) t
  refine Eq.trans ?_ (V_main_arg9 m c)
  funext j
  unfold iblk
  rw [View.read_apply]
  show V m c main_arg9 _ = V m c main_arg9 _
  refine congrArg _ ?_
  funext a
  apply Fin.ext
  match a with
  | ⟨0, _⟩ => show win0_8.index t 0 * 2 + 1 * (j 0).val = (j 0).val; rw [h0]; omega
  | ⟨1, _⟩ => show win0_8.index t 1 * 16 + 1 * (j 1).val = (j 1).val; rw [h1]; omega
  | ⟨2, _⟩ => show win0_8.index t 2 * 256 + 1 * (j 2).val = (j 2).val; rw [h2]; omega
  | ⟨3, _⟩ => show win0_8.index t 3 * 512 + 1 * (j 3).val = (j 3).val; rw [h3]; omega

/-- Operand 9 is read whole. -/
theorem whole9 (t : Fin cfg0.N) : (iblk m c 9 t : S2x16x512x256.Idx → EReal) = arg11 m c := by
  obtain ⟨h0, h1, h2, h3⟩ :=
    (by decide +kernel : ∀ t : Fin grid0.N, win0_9.index t (0 : Fin 4) = 0 ∧ win0_9.index t (1 : Fin 4) = 0 ∧ win0_9.index t (2 : Fin 4) = 0 ∧ win0_9.index t (3 : Fin 4) = 0) t
  refine Eq.trans ?_ (converted m c)
  funext j
  unfold iblk
  rw [View.read_apply]
  show V m c main_v4 _ = V m c main_v4 _
  refine congrArg _ ?_
  funext a
  apply Fin.ext
  match a with
  | ⟨0, _⟩ => show win0_9.index t 0 * 2 + 1 * (j 0).val = (j 0).val; rw [h0]; omega
  | ⟨1, _⟩ => show win0_9.index t 1 * 16 + 1 * (j 1).val = (j 1).val; rw [h1]; omega
  | ⟨2, _⟩ => show win0_9.index t 2 * 512 + 1 * (j 2).val = (j 2).val; rw [h2]; omega
  | ⟨3, _⟩ => show win0_9.index t 3 * 256 + 1 * (j 3).val = (j 3).val; rw [h3]; omega

/-- Operand 10 is read whole. -/
theorem whole10 (t : Fin cfg0.N) : (iblk m c 10 t : S256x64.Idx → EReal) = arg13 m c := by
  obtain ⟨h0, h1⟩ :=
    (by decide +kernel : ∀ t : Fin grid0.N, win0_10.index t (0 : Fin 2) = 0 ∧ win0_10.index t (1 : Fin 2) = 0) t
  refine Eq.trans ?_ (V_main_arg13 m c)
  funext j
  unfold iblk
  rw [View.read_apply]
  show V m c main_arg13 _ = V m c main_arg13 _
  refine congrArg _ ?_
  funext a
  apply Fin.ext
  match a with
  | ⟨0, _⟩ => show win0_10.index t 0 * 256 + 1 * (j 0).val = (j 0).val; rw [h0]; omega
  | ⟨1, _⟩ => show win0_10.index t 1 * 64 + 1 * (j 1).val = (j 1).val; rw [h1]; omega

/-- Operand 11 is read whole. -/
theorem whole11 (t : Fin cfg0.N) : (iblk m c 11 t : S64x8.Idx → EReal) = arg15 m c := by
  obtain ⟨h0, h1⟩ :=
    (by decide +kernel : ∀ t : Fin grid0.N, win0_11.index t (0 : Fin 2) = 0 ∧ win0_11.index t (1 : Fin 2) = 0) t
  refine Eq.trans ?_ (V_main_arg15 m c)
  funext j
  unfold iblk
  rw [View.read_apply]
  show V m c main_arg15 _ = V m c main_arg15 _
  refine congrArg _ ?_
  funext a
  apply Fin.ext
  match a with
  | ⟨0, _⟩ => show win0_11.index t 0 * 64 + 1 * (j 0).val = (j 0).val; rw [h0]; omega
  | ⟨1, _⟩ => show win0_11.index t 1 * 8 + 1 * (j 1).val = (j 1).val; rw [h1]; omega

end Cert.Proof.Entry
-- ==== Proof.Finite.lean ====
/-
  Extended reals that are real numbers: closed under what a row's logits are made of; and the softmax of a row of reals,
  whose entries are positive reals.
-/
module

public import proofs.«01_k».proof.Proof.Consts
public import Idealize.ShloMosaic.Lib.IdealHost

@[expose] public section

noncomputable section

namespace Cert.Proof.Finite

open Idealize.ShloMosaic

/-- The extended real is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.sum {ι : Type} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self _ _)).add (ih fun i hi => h i (Finset.mem_insert_of_mem hi))

/-- A number whose absolute value is below ∞ is a real number. -/
theorem isReal_of_abs_lt {x : EReal} (h : max x (-x) < ⊤) : IsReal x := by
  induction x using EReal.rec with
  | bot => simp at h
  | top => simp at h
  | coe r => exact ⟨r, rfl⟩

/-- The sum of a family of reals is the real sum. -/
theorem sum_coe {ι : Type} (s : Finset ι) (f : ι → ℝ) : ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- The greatest entry of a row of sixteen. -/
def greatest (z : Fin 16 → EReal) : EReal := (Finset.univ : Finset (Fin 16)).fold max ⊥ z

/-- The softmax of a row of sixteen. -/
def soft (z : Fin 16 → EReal) (t : Fin 16) : EReal :=
  Ideal.div (Ideal.exp (z t - greatest z)) (∑ u : Fin 16, Ideal.exp (z u - greatest z))

theorem greatest_real (z : Fin 16 → EReal) (hz : ∀ t, IsReal (z t)) : IsReal (greatest z) := by
  have h0 : z 0 ≤ greatest z := (Finset.le_fold_max _).mpr (Or.inr ⟨0, Finset.mem_univ _, le_rfl⟩)
  have h1 : greatest z < ⊤ := by
    refine (Finset.fold_max_lt _).mpr ⟨bot_lt_top, fun t _ => ?_⟩
    obtain ⟨r, hr⟩ := hz t
    rw [hr]; exact EReal.coe_lt_top r
  obtain ⟨r, hr⟩ := hz 0
  generalize greatest z = g at h0 h1
  rw [hr] at h0
  induction g using EReal.rec with
  | bot => exact absurd h0 (not_le.mpr (EReal.bot_lt_coe r))
  | top => exact absurd h1 (lt_irrefl _)
  | coe s => exact ⟨s, rfl⟩

/-- Every entry of the softmax of a row of reals is a positive real. -/
theorem soft_pos (z : Fin 16 → EReal) (hz : ∀ t, IsReal (z t)) (t : Fin 16) : ∃ r : ℝ, 0 < r ∧ soft z t = (r : EReal) := by
  obtain ⟨m, hm⟩ := greatest_real z hz
  choose y hy using hz
  have he : ∀ u, Ideal.exp (z u - greatest z) = ((Real.exp (y u - m) : ℝ) : EReal) := fun u => by
    rw [hy u, hm, ← EReal.coe_sub]; rfl
  have hs : 0 < ∑ u : Fin 16, Real.exp (y u - m) := Finset.sum_pos (fun u _ => Real.exp_pos _) ⟨0, Finset.mem_univ _⟩
  refine ⟨Real.exp (y t - m) * (∑ u : Fin 16, Real.exp (y u - m))⁻¹, by positivity, ?_⟩
  unfold soft
  simp only [he, sum_coe]
  rw [Ideal.div, if_neg (by exact_mod_cast hs.ne'), ← EReal.coe_inv, ← EReal.coe_mul]

end Cert.Proof.Finite
-- ==== Proof.Order.lean ====
/-
  The four greatest of a row, two ways. A stable sort of the row's sixteen positions, greater value first and the earlier
  position first among equals (`order`), against rounds of "the greatest value, the first position holding it, that
  position lowered to −∞": after `r` rounds exactly the first `r` positions of the sort are lowered (`lowered`), and the
  next round takes the next one (`greatest_lowered`, `first_lowered`).
-/
module

public import Idealize.ShloMosaic.Lib.SortFacts
public import Mathlib.Data.EReal.Basic

@[expose] public section

noncomputable section

namespace Cert.Proof.Order

open Idealize.ShloMosaic

/-- "Position `a` stands before position `b`" by value alone. -/
def ahead (p : Fin 16 → EReal) (a b : Fin 16) : Bool := decide (p b < p a)

/-- `a` stands before `b` by value, or by position when the values are equal. -/
def Before (p : Fin 16 → EReal) (a b : Fin 16) : Prop := p b < p a ∨ (p a = p b ∧ a < b)

/-- The position that the stable sort puts at place `k`. -/
def order (p : Fin 16 → EReal) : Fin 16 → Fin 16 := sortedFrom (ahead p)

theorem before_trans {p : Fin 16 → EReal} {a b c : Fin 16} (h : Before p a b) (h' : Before p b c) : Before p a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

/-- Inserting a position that is earlier than all of a list in order keeps the list in order. -/
theorem insert_before (p : Fin 16 → EReal) (a : Fin 16) (l : List (Fin 16)) (hl : l.Pairwise (Before p))
    (ha : ∀ b ∈ l, a < b) : (insertBefore (ahead p) a l).Pairwise (Before p) := by
  induction l with
  | nil => exact List.pairwise_singleton _ _
  | cons b l ih =>
    rw [List.pairwise_cons] at hl
    unfold insertBefore
    split
    · rename_i h
      have hb : p a < p b := by simpa [ahead] using h
      refine List.pairwise_cons.mpr ⟨fun c hc => ?_, ih hl.2 fun c hc => ha c (List.mem_cons_of_mem _ hc)⟩
      rcases List.mem_cons.mp ((perm_insertBefore (ahead p) a l).mem_iff.mp hc) with rfl | hc'
      · exact Or.inl hb
      · exact hl.1 c hc'
    · rename_i h
      have hb : p b ≤ p a := by simpa [ahead] using h
      have hab : Before p a b := by
        rcases hb.lt_or_eq with hb | hb
        · exact Or.inl hb
        · exact Or.inr ⟨hb.symm, ha b List.mem_cons_self⟩
      refine List.pairwise_cons.mpr ⟨fun c hc => ?_, List.pairwise_cons.mpr hl⟩
      rcases List.mem_cons.mp hc with rfl | hc'
      · exact hab
      · exact before_trans hab (hl.1 c hc')

/-- The stable sort of an increasing list of positions is in order. -/
theorem sorted_before (p : Fin 16 → EReal) (l : List (Fin 16)) (hl : l.Pairwise (· < ·)) :
    (stableSort (ahead p) l).Pairwise (Before p) := by
  induction l with
  | nil => exact List.Pairwise.nil
  | cons a l ih =>
    rw [List.pairwise_cons] at hl
    unfold stableSort
    refine insert_before p a _ (ih hl.2) fun b hb => hl.1 b ?_
    exact (perm_stableSort (ahead p) l).mem_iff.mp hb

/-- Places in increasing order hold positions in order. -/
theorem order_before (p : Fin 16 → EReal) (i j : Fin 16) (h : i < j) : Before p (order p i) (order p j) := by
  have hp : ∀ a b : Fin (sortPositions 16 (ahead p)).length, a < b →
      Before p ((sortPositions 16 (ahead p)).get a) ((sortPositions 16 (ahead p)).get b) :=
    List.pairwise_iff_get.mp (sorted_before p _ (List.pairwise_lt_finRange 16))
  unfold order sortedFrom
  exact hp _ _ (by simp only [Fin.lt_def, Fin.val_cast]; exact h)

theorem order_injective (p : Fin 16 → EReal) : Function.Injective (order p) := sortedFrom_injective _

theorem order_surjective (p : Fin 16 → EReal) : Function.Surjective (order p) := sortedFrom_surjective _

/-- The row after `r` rounds: the first `r` positions of the sort lowered to −∞. -/
def lowered (p : Fin 16 → EReal) (r : ℕ) : Fin 16 → EReal := fun t =>
  open Classical in if ∃ j : Fin 16, j.val < r ∧ order p j = t then ⊥ else p t

theorem lowered_zero (p : Fin 16 → EReal) : lowered p 0 = p := by
  funext t
  simp [lowered]

theorem lowered_order (p : Fin 16 → EReal) (r : ℕ) (j : Fin 16) :
    lowered p r (order p j) = if j.val < r then ⊥ else p (order p j) := by
  unfold lowered
  by_cases h : j.val < r
  · rw [if_pos ⟨j, h, rfl⟩, if_pos h]
  · rw [if_neg, if_neg h]
    rintro ⟨i, hi, he⟩
    exact h (order_injective p he ▸ hi)

/-- One more round lowers one more position. -/
theorem lowered_succ (p : Fin 16 → EReal) (r : Fin 16) (t : Fin 16) :
    (if t = order p r then ⊥ else lowered p r t) = lowered p (r + 1) t := by
  obtain ⟨j, rfl⟩ := order_surjective p t
  rw [lowered_order, lowered_order]
  by_cases h : j = r
  · subst h; simp
  · rw [if_neg fun e => h (order_injective p e)]
    have : j.val ≠ r.val := fun e => h (Fin.ext e)
    by_cases h' : j.val < r.val
    · rw [if_pos h', if_pos (by omega)]
    · rw [if_neg h', if_neg (by omega)]

/-- After `r` rounds no value exceeds that of the sort's position `r`. -/
theorem lowered_le (p : Fin 16 → EReal) (r : Fin 16) (t : Fin 16) : lowered p r t ≤ p (order p r) := by
  obtain ⟨j, rfl⟩ := order_surjective p t
  rw [lowered_order]
  split
  · exact bot_le
  · rename_i h
    rcases (show r ≤ j from Fin.le_def.mpr (Nat.le_of_not_lt h)).lt_or_eq with h | h
    · rcases order_before p r j h with h | ⟨h, -⟩
      · exact h.le
      · exact h.ge
    · rw [h]

/-- The sort's position `r` still holds its own value after `r` rounds. -/
theorem lowered_self (p : Fin 16 → EReal) (r : Fin 16) : lowered p r (order p r) = p (order p r) := by
  rw [lowered_order, if_neg (Nat.lt_irrefl _)]

/-- The greatest value after `r` rounds is that of the sort's position `r`. -/
theorem greatest_lowered (p : Fin 16 → EReal) (r : Fin 16) :
    (Finset.univ : Finset (Fin 16)).fold max ⊥ (fun t => lowered p r t) = p (order p r) := by
  refine le_antisymm ?_ ?_
  · exact (Finset.fold_max_le _).mpr ⟨bot_le, fun t _ => lowered_le p r t⟩
  · exact (Finset.le_fold_max _).mpr (Or.inr ⟨order p r, Finset.mem_univ _, (lowered_self p r).ge⟩)

/-- A position holding the greatest value after `r` rounds is not before the sort's position `r`. -/
theorem first_lowered (p : Fin 16 → EReal) (hp : ∀ t, p t ≠ ⊥) (r t : Fin 16) (h : lowered p r t = p (order p r)) :
    order p r ≤ t := by
  obtain ⟨j, rfl⟩ := order_surjective p t
  rw [lowered_order] at h
  by_cases hj : j.val < r.val
  · rw [if_pos hj] at h
    exact absurd h.symm (hp _)
  · rw [if_neg hj] at h
    rcases (show r ≤ j from Fin.le_def.mpr (Nat.le_of_not_lt hj)).lt_or_eq with h' | h'
    · rcases order_before p r j h' with h'' | ⟨-, h''⟩
      · exact absurd h h''.ne
      · exact h''.le
    · rw [h']

end Cert.Proof.Order
-- ==== Proof.Model.lean ====
/-
  The meaning of one row: its logits, its expert probabilities, its gates over the four greatest, a gated layer of experts,
  the head; and the algebra by which a layer's two spellings agree (the gate multiplied into the hidden vector, or into the
  expert's output; the second layer at scale 8 by 2 and its result multiplied by 1/16).
-/
module

public import proofs.«01_k».proof.Proof.Finite
public import proofs.«01_k».proof.Proof.Order

@[expose] public section

noncomputable section

namespace Cert.Proof.Model

open Idealize.ShloMosaic Cert.Proof.Finite Cert.Proof.Order

/-- Place `k < 4` among the sixteen. -/
def place (k : Fin 4) : Fin 16 := ⟨k.val, by omega⟩

/-- The position of the `k`-th greatest. -/
def top (p : Fin 16 → EReal) (k : Fin 4) : Fin 16 := order p (place k)

theorem top_injective (p : Fin 16 → EReal) : Function.Injective (top p) := fun a b h => by
  have := order_injective p h
  exact Fin.ext (by simpa [place] using congrArg Fin.val this)

/-- The small constant in the gates' denominator. -/
def eps : EReal := Ideal.ofBits .f32 0x3089705F#32

/-- The gates' denominator: the four greatest summed, and the small constant. -/
def denom (p : Fin 16 → EReal) : EReal := (∑ k : Fin 4, p (top p k)) + eps

/-- The gate of the `k`-th greatest. -/
def share (p : Fin 16 → EReal) (k : Fin 4) : EReal := Ideal.div (p (top p k)) (denom p)

/-- The gate of position `t`: its share if it is one of the four, else zero. -/
def gate (p : Fin 16 → EReal) (t : Fin 16) : EReal := ∑ k : Fin 4, if t = top p k then share p k else 0

theorem gate_top (p : Fin 16 → EReal) (k : Fin 4) : gate p (top p k) = share p k := by
  unfold gate
  rw [Finset.sum_eq_single k]
  · rw [if_pos rfl]
  · intro j _ hj
    rw [if_neg fun e => hj (top_injective p e).symm]
  · exact fun h => absurd (Finset.mem_univ _) h

theorem gate_off (p : Fin 16 → EReal) (t : Fin 16) (h : ∀ k, t ≠ top p k) : gate p t = 0 := by
  unfold gate
  exact Finset.sum_eq_zero fun k _ => if_neg (h k)

/-- A row of positive reals. -/
def Pos (p : Fin 16 → EReal) : Prop := ∀ t, ∃ r : ℝ, 0 < r ∧ p t = (r : EReal)

theorem Pos.ne_bot {p : Fin 16 → EReal} (h : Pos p) (t : Fin 16) : p t ≠ ⊥ := by
  obtain ⟨r, -, e⟩ := h t
  rw [e]; exact EReal.coe_ne_bot r

/-- The denominator of a row of positive reals is a positive real. -/
theorem denom_pos {p : Fin 16 → EReal} (h : Pos p) : ∃ r : ℝ, 0 < r ∧ denom p = (r : EReal) := by
  choose y hy hp using h
  obtain ⟨e, he, hε⟩ := Consts.eps_f32
  refine ⟨(∑ k : Fin 4, y (top p k)) + e, ?_, ?_⟩
  · have : 0 ≤ ∑ k : Fin 4, y (top p k) := Finset.sum_nonneg fun k _ => (hy _).le
    linarith
  · unfold denom eps
    rw [hε, EReal.coe_add, ← sum_coe]
    exact congrArg (· + (e : EReal)) (Finset.sum_congr rfl fun k _ => hp _)

theorem denom_ne_zero {p : Fin 16 → EReal} (h : Pos p) : denom p ≠ 0 := by
  obtain ⟨r, hr, e⟩ := denom_pos h
  rw [e]; exact_mod_cast hr.ne'

/-- The gates of a row of positive reals are nonnegative reals. -/
theorem gate_real {p : Fin 16 → EReal} (h : Pos p) (t : Fin 16) : ∃ r : ℝ, 0 ≤ r ∧ gate p t = (r : EReal) := by
  by_cases ht : ∃ k, t = top p k
  · obtain ⟨k, rfl⟩ := ht
    obtain ⟨d, hd, ed⟩ := denom_pos h
    obtain ⟨y, hy, ey⟩ := h (top p k)
    refine ⟨y * d⁻¹, by positivity, ?_⟩
    rw [gate_top, share, ed, ey, Ideal.div, if_neg (by exact_mod_cast hd.ne'), ← EReal.coe_inv, ← EReal.coe_mul]
  · exact ⟨0, le_rfl, gate_off p t fun k e => ht ⟨k, e⟩⟩

/-- A row's logits: its content against the keys over 16, less its squared distance to the experts' positions times 2/9. -/
def logits (x : Fin 256 → EReal) (pos : EReal) (key : Fin 16 → Fin 256 → EReal) (tpos : Fin 16 → EReal) (t : Fin 16) : EReal :=
  (∑ d : Fin 256, x d * key t d) * ((1 / 16 : ℝ) : EReal) - (pos - tpos t) * (pos - tpos t) * ((2 / 9 : ℝ) : EReal)

/-- A row's expert probabilities. -/
def probs (x : Fin 256 → EReal) (pos : EReal) (key : Fin 16 → Fin 256 → EReal) (tpos : Fin 16 → EReal) : Fin 16 → EReal :=
  soft (logits x pos key tpos)

theorem logits_real (x : Fin 256 → EReal) (pos : EReal) (key : Fin 16 → Fin 256 → EReal) (tpos : Fin 16 → EReal)
    (hx : ∀ d, IsReal (x d)) (hp : IsReal pos) (hk : ∀ t d, IsReal (key t d)) (ht : ∀ t, IsReal (tpos t)) (t : Fin 16) :
    IsReal (logits x pos key tpos t) :=
  ((IsReal.sum _ _ fun d _ => (hx d).mul (hk t d)).mul (isReal_coe _)).sub
    (((hp.sub (ht t)).mul (hp.sub (ht t))).mul (isReal_coe _))

theorem probs_pos (x : Fin 256 → EReal) (pos : EReal) (key : Fin 16 → Fin 256 → EReal) (tpos : Fin 16 → EReal)
    (hx : ∀ d, IsReal (x d)) (hp : IsReal pos) (hk : ∀ t d, IsReal (key t d)) (ht : ∀ t, IsReal (tpos t)) :
    Pos (probs x pos key tpos) :=
  soft_pos _ (logits_real x pos key tpos hx hp hk ht)

/-- The hidden vector of expert `t`. -/
def hidden (x : Fin 256 → EReal) (w1 : Fin 16 → Fin 256 → Fin 512 → EReal) (t : Fin 16) (f : Fin 512) : EReal :=
  max (∑ d : Fin 256, x d * w1 t d f) 0

/-- The experts' outputs, gated and summed. -/
def mix (x : Fin 256 → EReal) (p : Fin 16 → EReal) (w1 : Fin 16 → Fin 256 → Fin 512 → EReal)
    (w2 : Fin 16 → Fin 512 → Fin 256 → EReal) (e : Fin 256) : EReal :=
  ∑ t : Fin 16, gate p t * ∑ f : Fin 512, w2 t f e * hidden x w1 t f

/-- A nonnegative real factor goes into a sum. -/
theorem mul_sum_of_nonneg {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The first layer: the gate multiplied into the hidden vector is the gate multiplied into the expert's output. -/
theorem mix_eq (x : Fin 256 → EReal) (p : Fin 16 → EReal) (hp : Pos p) (w1 : Fin 16 → Fin 256 → Fin 512 → EReal)
    (w2 : Fin 16 → Fin 512 → Fin 256 → EReal) (e : Fin 256) :
    (∑ t : Fin 16, ∑ f : Fin 512, max (∑ d : Fin 256, x d * w1 t d f) 0 * gate p t * w2 t f e) = mix x p w1 w2 e := by
  unfold mix
  refine Finset.sum_congr rfl fun t _ => ?_
  obtain ⟨g, hg, eg⟩ := gate_real hp t
  rw [eg, mul_sum_of_nonneg _ _ g hg]
  refine Finset.sum_congr rfl fun f _ => ?_
  unfold hidden
  rw [mul_comm (max _ _) (g : EReal), mul_assoc, mul_comm (max _ _)]

/-- A hidden value of a row scaled by 8 is 8 times the row's. -/
theorem hidden_scaled (x : Fin 256 → EReal) (w1 : Fin 16 → Fin 256 → Fin 512 → EReal) (t : Fin 16) (f : Fin 512) :
    max (∑ d : Fin 256, x d * ((8 : ℝ) : EReal) * w1 t d f) 0 = ((8 : ℝ) : EReal) * hidden x w1 t f := by
  have h : (∑ d : Fin 256, x d * ((8 : ℝ) : EReal) * w1 t d f) = ((8 : ℝ) : EReal) * ∑ d : Fin 256, x d * w1 t d f := by
    rw [mul_sum_of_nonneg _ _ 8 (by norm_num)]
    exact Finset.sum_congr rfl fun d _ => by rw [mul_comm (x d), mul_assoc]
  have hm : Monotone fun y : EReal => ((8 : ℝ) : EReal) * y := fun a b hab =>
    mul_le_mul_of_nonneg_left hab (by exact_mod_cast (by norm_num : (0 : ℝ) ≤ 8))
  rw [h, hidden, hm.map_max, mul_zero]

/-- The second layer: at scale 8 by 2 and multiplied by 1/16 it is the plain layer. -/
theorem mix_scaled (x : Fin 256 → EReal) (p : Fin 16 → EReal) (hp : Pos p) (w1 : Fin 16 → Fin 256 → Fin 512 → EReal)
    (w2 : Fin 16 → Fin 512 → Fin 256 → EReal) (e : Fin 256) :
    (∑ t : Fin 16, ∑ f : Fin 512, max (∑ d : Fin 256, x d * ((8 : ℝ) : EReal) * w1 t d f) 0
      * (gate p t * ((2 : ℝ) : EReal)) * w2 t f e) * ((1 / 16 : ℝ) : EReal) = mix x p w1 w2 e := by
  rw [← mix_eq x p hp w1 w2 e, mul_comm, mul_sum_of_nonneg _ _ _ (by norm_num)]
  refine Finset.sum_congr rfl fun t _ => ?_
  rw [mul_sum_of_nonneg _ _ _ (by norm_num)]
  refine Finset.sum_congr rfl fun f _ => ?_
  rw [hidden_scaled]
  have h16 : ((1 / 16 : ℝ) : EReal) * (((8 : ℝ) : EReal) * ((2 : ℝ) : EReal)) = 1 := by
    rw [← EReal.coe_mul, ← EReal.coe_mul]; norm_num
  show _ = hidden x w1 t f * gate p t * w2 t f e
  calc ((1 / 16 : ℝ) : EReal) * (((8 : ℝ) : EReal) * hidden x w1 t f * (gate p t * ((2 : ℝ) : EReal)) * w2 t f e)
      = (((1 / 16 : ℝ) : EReal) * (((8 : ℝ) : EReal) * ((2 : ℝ) : EReal))) * (hidden x w1 t f * gate p t * w2 t f e) := by
        simp only [mul_assoc, mul_comm, mul_left_comm]
    _ = _ := by rw [h16, one_mul]

/-- The gated experts of a real row with real weights are real. -/
theorem mix_real (x : Fin 256 → EReal) (p : Fin 16 → EReal) (hp : Pos p) (w1 : Fin 16 → Fin 256 → Fin 512 → EReal)
    (w2 : Fin 16 → Fin 512 → Fin 256 → EReal) (hx : ∀ d, IsReal (x d)) (h1 : ∀ t d f, IsReal (w1 t d f))
    (h2 : ∀ t f e, IsReal (w2 t f e)) (e : Fin 256) : IsReal (mix x p w1 w2 e) := by
  refine IsReal.sum _ _ fun t _ => IsReal.mul ?_ (IsReal.sum _ _ fun f _ => (h2 t f e).mul ?_)
  · obtain ⟨g, -, eg⟩ := gate_real hp t
    exact ⟨g, eg⟩
  · exact (IsReal.sum _ _ fun d _ => (hx d).mul (h1 t d f)).max isReal_zero

/-- The head's output `k`. -/
def head (x : Fin 256 → EReal) (wh1 : Fin 256 → Fin 64 → EReal) (wh2 : Fin 64 → Fin 8 → EReal) (k : Fin 8) : EReal :=
  Ideal.logistic (∑ j : Fin 64, max (∑ d : Fin 256, x d * wh1 d j) 0 * wh2 j k)

/-- One where the gate is positive, else zero. -/
def used (p : Fin 16 → EReal) (t : Fin 16) : EReal := if 0 < gate p t then 1 else 0

end Cert.Proof.Model
-- ==== Proof.Rounds.lean ====
/-
  THE ROUNDS. The body finds the four greatest of a row of sixteen one after another: the greatest value, the first lane
  that holds it, that lane lowered to −∞. Here: at a row of positive probabilities the four lanes found are the first four
  positions of the stable descending sort, and the gates made of them are the row's gates.
-/
module

public import proofs.«01_k».proof.Proof.Block
public import proofs.«01_k».proof.Proof.Model
public import proofs.«01_k».proof.Proof.Consts
public import Idealize.ShloMosaic.Lib.Pointwise
public import Idealize.ShloMosaic.Lib.IdealHost
public import Idealize.ShloMosaic.Lib.Affine

@[expose] public section

noncomputable section

namespace Cert.Proof.Rounds

open Idealize.ShloMosaic Cert.KernelIdeal Cert.KernelIdeal.Gen
open Cert.Proof.Block Cert.Proof.Order Cert.Proof.Model Cert.Proof.Consts

/-- The least of words none of which is below `c`, one of which is `c`, is `c`. -/
theorem fold_minsi (f : Fin 16 → BitVec 32) (c z : BitVec 32) (hz : c.toInt ≤ z.toInt) (hf : ∀ t, c.toInt ≤ (f t).toInt)
    (s : Finset (Fin 16)) :
    c.toInt ≤ (s.fold IntOp.minsi z f).toInt ∧ ((∃ t ∈ s, f t = c) → s.fold IntOp.minsi z f = c) := by
  classical
  induction s using Finset.induction_on with
  | empty => exact ⟨by simpa using hz, fun ⟨t, ht, _⟩ => absurd ht (Finset.notMem_empty t)⟩
  | insert a s ha ih =>
    rw [Finset.fold_insert ha]
    have hlt : ∀ x y : BitVec 32, x.slt y = true ↔ x.toInt < y.toInt := fun x y => by simp [BitVec.slt]
    have hmin : ∀ x y : BitVec 32, IntOp.minsi x y = if x.slt y then x else y := fun _ _ => rfl
    refine ⟨?_, ?_⟩
    · rw [hmin]
      split
      · exact hf a
      · exact ih.1
    · rintro ⟨t, ht, e⟩
      rw [hmin]
      rcases Finset.mem_insert.mp ht with rfl | ht
      · split
        · exact e
        · rename_i hn
          rw [hlt, e] at hn
          exact BitVec.eq_of_toInt_eq (by have := ih.1; omega)
      · rw [ih.2 ⟨t, ht, e⟩]
        split
        · rename_i hl
          rw [hlt] at hl
          exact BitVec.eq_of_toInt_eq (by have := hf a; omega)
        · rfl

theorem word_toInt (t : Fin 16) : (BitVec.ofNat 32 t.val).toInt = t.val := by
  have h : ∀ t : Fin 16, (BitVec.ofNat 32 t.val).toInt = t.val := by decide
  exact h t

theorem word_inj (s t : Fin 16) : BitVec.ofNat 32 s.val = BitVec.ofNat 32 t.val ↔ s = t :=
  ⟨fun e => Fin.ext (by have := congrArg BitVec.toInt e; rw [word_toInt, word_toInt] at this; exact_mod_cast this), fun e => e ▸ rfl⟩

/-- The first lane that holds the greatest value after `r` rounds, as a word. -/
theorem first_word (p : Fin 16 → EReal) (hp : ∀ t, p t ≠ ⊥) (r : Fin 16) (z : EReal) (hz : z = p (order p r)) :
    Finset.univ.fold IntOp.minsi 2147483647#32 (fun t : Fin 16 => if lowered p r t = z then BitVec.ofNat 32 t.val else 16#32)
      = BitVec.ofNat 32 (order p r).val := by
  subst hz
  refine (fold_minsi _ _ _ ?_ ?_ _).2 ⟨order p r, Finset.mem_univ _, if_pos (lowered_self p r)⟩
  · rw [word_toInt]
    have := (order p r).isLt
    have h : (2147483647#32).toInt = 2147483647 := by decide
    omega
  · intro t
    rw [word_toInt]
    split
    · rename_i h
      rw [word_toInt]
      exact_mod_cast first_lowered p hp r t h
    · have := (order p r).isLt
      have h : (16#32).toInt = 16 := by decide
      omega

/-- A lane-number test selects between two values. -/
theorem select_lane {α : Type} (s t : Fin 16) (x y : α) :
    Scalar.select (IntOp.cmpi CmpIPredicate.eq (BitVec.ofNat 32 s.val) (BitVec.ofNat 32 t.val)) x y = if s = t then x else y := by
  have h : IntOp.cmpi CmpIPredicate.eq (BitVec.ofNat 32 s.val) (BitVec.ofNat 32 t.val) = 1 ↔ s = t :=
    IntOp.cmpi_eq.trans (word_inj s t)
  unfold Scalar.select
  by_cases e : s = t
  · rw [if_pos e, if_pos (h.mpr e)]
  · rw [if_neg e, if_neg (mt h.mp e)]

theorem lanes16_apply (r : Fin 512) (t : Fin 16) : (lanes16 : IVec S512x16 32) (ix2 r t) = BitVec.ofNat 32 t.val := by
  unfold lanes16; pointwise

section Row

variable (P : FVec Ideal S512x16 .f32) (M : FVec Ideal S512 .f32) (r : Fin 512) (p : Fin 16 → EReal)

/-- The row the rounds run on: positive probabilities, and the greatest of them. -/
structure Row : Prop where
  row : ∀ t, P (ix2 r t) = p t
  max : M (ix1 r) = p (order p 0)
  bot : ∀ t, p t ≠ ⊥

variable {P M r p}

theorem max0 (h : Row P M r p) : k0_pay55 M (ix2 r 0) = p (order p 0) := by
  refine Eq.trans ?_ h.max
  unfold k0_pay55; pointwise

theorem idx0 (h : Row P M r p) : k0_pay56 lanes16 P M (ix2 r 0) = BitVec.ofNat 32 (order p 0).val := by
  rw [← first_word p h.bot 0 (M (ix1 r)) h.max]
  unfold k0_pay56 k0_pay55
  pointwise
  simp only [h.row, lanes16_apply, Fin.val_zero, lowered_zero]

theorem low0 (h : Row P M r p) (t : Fin 16) : k0_pay57 lanes16 P M (ix2 r t) = lowered p 1 t := by
  unfold k0_pay57
  pointwise
  rw [idx0 h, lanes16_apply, select_lane, negInf, h.row]
  have := lowered_succ p 0 t
  rwa [Fin.val_zero, lowered_zero] at this

theorem max1 (h : Row P M r p) : k0_pay58 lanes16 P M (ix2 r 0) = p (order p 1) := by
  unfold k0_pay58
  pointwise
  simp only [low0 h, negInf]
  exact greatest_lowered p 1

theorem idx1 (h : Row P M r p) : k0_pay59 lanes16 P M (ix2 r 0) = BitVec.ofNat 32 (order p 1).val := by
  rw [← first_word p h.bot 1 _ (max1 h)]
  unfold k0_pay59
  pointwise
  simp only [low0 h, lanes16_apply]

theorem low1 (h : Row P M r p) (t : Fin 16) : k0_pay60 lanes16 P M (ix2 r t) = lowered p 2 t := by
  unfold k0_pay60
  pointwise
  rw [idx1 h, lanes16_apply, select_lane, negInf, low0 h]
  exact lowered_succ p 1 t

theorem max2 (h : Row P M r p) : k0_pay61 lanes16 P M (ix2 r 0) = p (order p 2) := by
  unfold k0_pay61
  pointwise
  simp only [low1 h, negInf]
  exact greatest_lowered p 2

theorem idx2 (h : Row P M r p) : k0_pay62 lanes16 P M (ix2 r 0) = BitVec.ofNat 32 (order p 2).val := by
  rw [← first_word p h.bot 2 _ (max2 h)]
  unfold k0_pay62
  pointwise
  simp only [low1 h, lanes16_apply]

theorem low2 (h : Row P M r p) (t : Fin 16) : k0_pay63 lanes16 P M (ix2 r t) = lowered p 3 t := by
  unfold k0_pay63
  pointwise
  rw [idx2 h, lanes16_apply, select_lane, negInf, low1 h]
  exact lowered_succ p 2 t

theorem max3 (h : Row P M r p) : k0_pay64 lanes16 P M (ix2 r 0) = p (order p 3) := by
  unfold k0_pay64
  pointwise
  simp only [low2 h, negInf]
  exact greatest_lowered p 3

theorem idx3 (h : Row P M r p) : k0_pay65 lanes16 P M (ix2 r 0) = BitVec.ofNat 32 (order p 3).val := by
  rw [← first_word p h.bot 3 _ (max3 h)]
  unfold k0_pay65
  pointwise
  simp only [low2 h, lanes16_apply]

theorem total (h : Row P M r p) : k0_pay66 lanes16 P M (ix2 r 0) = ∑ k : Fin 4, p (top p k) := by
  unfold k0_pay66
  pointwise
  rw [max0 h, max1 h, max2 h, max3 h, Fin.sum_univ_four]
  rfl

variable (P M) in
/-- The gates the body makes of the four rounds. -/
def gates : FVec Ideal S512x16 .f32 :=
  k0_pay67 lanes16 (k0_pay55 M) (k0_pay56 lanes16 P M) (k0_pay58 lanes16 P M) (k0_pay59 lanes16 P M) (k0_pay61 lanes16 P M)
    (k0_pay62 lanes16 P M) (k0_pay64 lanes16 P M) (k0_pay65 lanes16 P M) (k0_pay66 lanes16 P M)

/-- At a row of positive probabilities they are the row's gates. -/
theorem gates_apply (h : Row P M r p) (hp : Pos p) (t : Fin 16) : gates P M (ix2 r t) = gate p t := by
  unfold gates k0_pay67
  pointwise
  rw [idx0 h, idx1 h, idx2 h, idx3 h, max0 h, max1 h, max2 h, max3 h, total h, lanes16_apply, select_lane, select_lane, select_lane,
    select_lane]
  have hd : (∑ k : Fin 4, p (top p k)) + Ideal.ofBits .f32 814313567#32 ≠ 0 := denom_ne_zero hp
  simp only [Ideal.mul_one_div hd]
  unfold gate
  refine Eq.trans ?_ (Fin.sum_univ_four _).symm
  rfl

end Row

end Cert.Proof.Rounds
-- ==== Proof.Experts.lean ====
/-
  THE EXPERTS OF A BLOCK. Index by index, the body's two layers of experts: sixteen terms, one after another, each the
  hidden vector of an expert times the gate against the expert's second weights.
-/
module

public import proofs.«01_k».proof.Proof.Block
public import proofs.«01_k».proof.Proof.Model
public import proofs.«01_k».proof.Proof.Consts
public import Idealize.ShloMosaic.Lib.Pointwise

@[expose] public section

noncomputable section

namespace Cert.Proof.Experts

open Idealize.ShloMosaic Cert.KernelIdeal Cert.KernelIdeal.Gen
open Cert.Proof.Block Cert.Proof.Consts

/-- One expert's gated term. -/
def term (x : Fin 256 → EReal) (g : Fin 16 → EReal) (w1 : Fin 16 → Fin 256 → Fin 512 → EReal)
    (w2 : Fin 16 → Fin 512 → Fin 256 → EReal) (e : Fin 256) (t : Fin 16) : EReal :=
  ∑ f : Fin 512, max (∑ d : Fin 256, x d * w1 t d f) 0 * g t * w2 t f e

variable (I : In Ideal) (r : Fin 512)

/-- The first layer's first weights. -/
def up0 (t : Fin 16) (d : Fin 256) (f : Fin 512) : EReal := I.w1 t (ix3 0 d f)
/-- The first layer's second weights. -/
def down0 (t : Fin 16) (f : Fin 512) (e : Fin 256) : EReal := I.w2 t (ix4 0 0 f e)
/-- The second layer's first weights. -/
def up1 (t : Fin 16) (d : Fin 256) (f : Fin 512) : EReal := I.q1 t (ix3 0 d f)
/-- The second layer's second weights. -/
def down1 (t : Fin 16) (f : Fin 512) (e : Fin 256) : EReal := I.q2 t (ix3 0 f e)

/-- The first layer's term of expert `t`. -/
abbrev term0 (e : Fin 256) (t : Fin 16) : EReal :=
  term (fun d => I.xh (ix2 r d)) (fun t => I.gh (ix2 r t)) (up0 I) (down0 I) e t

theorem y2_apply (e : Fin 256) : I.y2 (ix2 r e) = term0 I r e 0 + term0 I r e 1 + term0 I r e 2 := by
  unfold In.y2 In.h0 k0_pay71 k0_pay70
  pointwise
  rfl

theorem y4_apply (e : Fin 256) : I.y4 (ix2 r e) = I.y2 (ix2 r e) + term0 I r e 3 + term0 I r e 4 := by
  unfold In.y4 In.w3 k0_pay73 k0_pay72
  pointwise
  rfl

theorem y7_apply (e : Fin 256) : I.y7 (ix2 r e) = I.y4 (ix2 r e) + term0 I r e 5 + term0 I r e 6 + term0 I r e 7 := by
  unfold In.y7 In.h5 In.w5 k0_pay76 k0_pay74 k0_pay75
  pointwise
  rfl

theorem y10_apply (e : Fin 256) : I.y10 (ix2 r e) = I.y7 (ix2 r e) + term0 I r e 8 + term0 I r e 9 + term0 I r e 10 := by
  unfold In.y10 In.h8 k0_pay78 k0_pay77
  pointwise
  rfl

theorem y12_apply (e : Fin 256) : I.y12 (ix2 r e) = I.y10 (ix2 r e) + term0 I r e 11 + term0 I r e 12 := by
  unfold In.y12 k0_pay79
  pointwise
  rfl

theorem x1_terms (e : Fin 256) : I.x1 (ix2 r e)
    = I.x0 (ix2 r e) + (I.y12 (ix2 r e) + term0 I r e 13 + term0 I r e 14 + term0 I r e 15) := by
  unfold In.x1 In.h13 k0_pay81 k0_pay80
  pointwise
  rfl

/-- Sixteen terms, in order. -/
theorem sum16 (f : Fin 16 → EReal) : (∑ t, f t)
    = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem xh_apply (d : Fin 256) : I.xh (ix2 r d) = I.x0 (ix2 r d) := rfl

theorem gh_apply (t : Fin 16) : I.gh (ix2 r t) = I.g0 (ix2 r t) := rfl

/-- The row after the first layer. -/
theorem x1_apply (e : Fin 256) : I.x1 (ix2 r e) = I.x0 (ix2 r e)
    + ∑ t, term (fun d => I.x0 (ix2 r d)) (fun t => I.g0 (ix2 r t)) (up0 I) (down0 I) e t := by
  rw [x1_terms, y12_apply, y10_apply, y7_apply, y4_apply, y2_apply, sum16]
  rfl

/-- The second layer's term of expert `t`. -/
abbrev term1 (e : Fin 256) (t : Fin 16) : EReal :=
  term (fun d => I.xq (ix2 r d)) (fun t => I.gq (ix2 r t)) (up1 I) (down1 I) e t

theorem z2_apply (e : Fin 256) : I.z2 (ix2 r e) = term1 I r e 0 + term1 I r e 1 + term1 I r e 2 := by
  unfold In.z2 In.k0 k0_pay102 k0_pay101
  pointwise
  rfl

theorem z4_apply (e : Fin 256) : I.z4 (ix2 r e) = I.z2 (ix2 r e) + term1 I r e 3 + term1 I r e 4 := by
  unfold In.z4 k0_pay103
  pointwise
  rfl

theorem z7_apply (e : Fin 256) : I.z7 (ix2 r e) = I.z4 (ix2 r e) + term1 I r e 5 + term1 I r e 6 + term1 I r e 7 := by
  unfold In.z7 In.k5 k0_pay105 k0_pay104
  pointwise
  rfl

theorem z9_apply (e : Fin 256) : I.z9 (ix2 r e) = I.z7 (ix2 r e) + term1 I r e 8 + term1 I r e 9 := by
  unfold In.z9 In.v8 k0_pay107 k0_pay106
  pointwise
  rfl

theorem z12_apply (e : Fin 256) : I.z12 (ix2 r e) = I.z9 (ix2 r e) + term1 I r e 10 + term1 I r e 11 + term1 I r e 12 := by
  unfold In.z12 In.k10 In.v10 k0_pay110 k0_pay108 k0_pay109
  pointwise
  rfl

theorem z15_terms (e : Fin 256) : I.z15 (ix2 r e) = I.z12 (ix2 r e) + term1 I r e 13 + term1 I r e 14 + term1 I r e 15 := by
  unfold In.z15 In.k13 k0_pay112 k0_pay111
  pointwise
  rfl

theorem xq_apply (d : Fin 256) : I.xq (ix2 r d) = I.x1 (ix2 r d) * ((8 : ℝ) : EReal) := by
  unfold In.xq k0_pay99
  pointwise
  rw [eight_f32]

theorem gq_apply (t : Fin 16) : I.gq (ix2 r t) = I.g1 (ix2 r t) * ((2 : ℝ) : EReal) := by
  unfold In.gq In.g1 k0_pay100
  pointwise
  rw [two_f32]

/-- The second layer, at its scale. -/
theorem z15_apply (e : Fin 256) : I.z15 (ix2 r e)
    = ∑ t, term (fun d => I.x1 (ix2 r d) * ((8 : ℝ) : EReal)) (fun t => I.g1 (ix2 r t) * ((2 : ℝ) : EReal)) (up1 I) (down1 I) e t := by
  rw [z15_terms, z12_apply, z9_apply, z7_apply, z4_apply, z2_apply, sum16]
  simp only [term1, xq_apply, gq_apply]

/-- The first result's row: the head over the row after both layers. -/
theorem res_apply (k : Fin 8) : I.res (ix2 r k)
    = Ideal.logistic (∑ j : Fin 64, max (∑ d : Fin 256, (I.x1 (ix2 r d) + I.z15 (ix2 r d) * ((1 / 16 : ℝ) : EReal)) * I.wh1 (ix2 d j)) 0
        * I.wh2 (ix2 j k)) := by
  unfold In.res k0_pay116 k0_pay113
  pointwise
  simp only [zero_f32, sixteenth_f32]

end Cert.Proof.Experts
-- ==== Proof.Rows.lean ====
/-
  THE ROWS OF A BLOCK. Row by row, what the body computes is the model's: the probabilities, the four positions, the gates,
  the gated experts of both layers, the head.
-/
module

public import proofs.«01_k».proof.Proof.Rounds
public import proofs.«01_k».proof.Proof.Experts

@[expose] public section

noncomputable section

namespace Cert.Proof.Rows

open Idealize.ShloMosaic Cert.KernelIdeal Cert.KernelIdeal.Gen
open Cert.Proof.Block Cert.Proof.Consts Cert.Proof.Model Cert.Proof.Order Cert.Proof.Finite Cert.Proof.Rounds Cert.Proof.Experts

variable (I : In Ideal) (r : Fin 512)

theorem spread : (Named.named κ "spread" 1046711865#32 : Ideal .f32) = ((2 / 9 : ℝ) : EReal) :=
  IdealRules.named_const.ideal_named_scalar _ _ _ _ rfl

/-- The row before the first layer. -/
def row (d : Fin 256) : EReal := I.x0 (ix2 r d)
/-- The row's position. -/
def position : EReal := I.pos (ix2 r 0)
/-- The first layer's keys. -/
def keys0 (t : Fin 16) (d : Fin 256) : EReal := I.key0 (ix3 0 d t)
/-- The second layer's keys. -/
def keys1 (t : Fin 16) (d : Fin 256) : EReal := I.key1 (ix3 0 d t)
/-- The first layer's expert positions. -/
def spots0 (t : Fin 16) : EReal := I.tpos0 (ix2 0 t)
/-- The second layer's expert positions. -/
def spots1 (t : Fin 16) : EReal := I.tpos1 (ix2 0 t)

/-- The first layer's probabilities of the row. -/
abbrev prob0 : Fin 16 → EReal := probs (row I r) (position I r) (keys0 I) (spots0 I)

/-- The row after the first layer. -/
def next (e : Fin 256) : EReal := row I r e + mix (row I r) (prob0 I r) (up0 I) (down0 I) e

/-- The second layer's probabilities of the row. -/
abbrev prob1 : Fin 16 → EReal := probs (next I r) (position I r) (keys1 I) (spots1 I)

/-- The row after the second layer. -/
def last (e : Fin 256) : EReal := next I r e + mix (next I r) (prob1 I r) (up1 I) (down1 I) e

theorem p0_apply (t : Fin 16) : I.p0 (ix2 r t) = prob0 I r t := by
  unfold In.p0 k0_pay53
  pointwise
  simp only [spread, sixteenth_f32, negInf]
  rfl

theorem greatest_order (p : Fin 16 → EReal) : Finset.univ.fold max ⊥ p = p (order p 0) := by
  have := greatest_lowered p 0
  simp only [Fin.val_zero, lowered_zero] at this
  exact this

theorem m0_apply : I.m0 (ix1 r) = prob0 I r (order (prob0 I r) 0) := by
  refine Eq.trans ?_ (greatest_order (prob0 I r))
  unfold In.m0 k0_pay54
  pointwise
  simp only [negInf]
  exact Finset.fold_congr fun t _ => p0_apply I r t

theorem row0_ok (h : Pos (prob0 I r)) : Row I.p0 I.m0 r (prob0 I r) := ⟨p0_apply I r, m0_apply I r, h.ne_bot⟩

theorem g0_apply (h : Pos (prob0 I r)) (t : Fin 16) : I.g0 (ix2 r t) = gate (prob0 I r) t :=
  gates_apply (row0_ok I r h) h t

/-- The row after the first layer is the model's. -/
theorem x1_row (h : Pos (prob0 I r)) (e : Fin 256) : I.x1 (ix2 r e) = next I r e := by
  rw [x1_apply]
  unfold next
  rw [← mix_eq _ _ h]
  simp only [g0_apply I r h]
  rfl

theorem p1_apply (h : Pos (prob0 I r)) (t : Fin 16) : I.p1 (ix2 r t) = prob1 I r t := by
  unfold In.p1 k0_pay85
  pointwise
  simp only [spread, sixteenth_f32, negInf, x1_row I r h]
  rfl

/-- The second layer's greatest probabilities. -/
def m1v : FVec Ideal S512 .f32 := multiReduction .maximumf [1] S512 I.p1 0xFF800000#32 reduces_S512x16_S512 (.inl rfl) rfl

theorem m1_eq : I.m1 = k0_pay55 (m1v I) := rfl

theorem m1v_apply (h : Pos (prob0 I r)) : m1v I (ix1 r) = prob1 I r (order (prob1 I r) 0) := by
  refine Eq.trans ?_ (greatest_order (prob1 I r))
  unfold m1v
  pointwise
  simp only [negInf]
  exact Finset.fold_congr fun t _ => p1_apply I r h t

theorem row1_ok (h : Pos (prob0 I r)) (h' : Pos (prob1 I r)) : Row I.p1 (m1v I) r (prob1 I r) :=
  ⟨p1_apply I r h, m1v_apply I r h, h'.ne_bot⟩

theorem g1_eq : I.g1 = gates I.p1 (m1v I) := rfl

theorem g1_apply (h : Pos (prob0 I r)) (h' : Pos (prob1 I r)) (t : Fin 16) : I.g1 (ix2 r t) = gate (prob1 I r) t := by
  rw [g1_eq]
  exact gates_apply (row1_ok I r h h') h' t

theorem i10_apply (h : Pos (prob0 I r)) (h' : Pos (prob1 I r)) :
    I.i10 (ix2 r 0) = BitVec.ofNat 32 (top (prob1 I r) 0).val := idx0 (row1_ok I r h h')
theorem i11_apply (h : Pos (prob0 I r)) (h' : Pos (prob1 I r)) :
    I.i11 (ix2 r 0) = BitVec.ofNat 32 (top (prob1 I r) 1).val := idx1 (row1_ok I r h h')
theorem i12_apply (h : Pos (prob0 I r)) (h' : Pos (prob1 I r)) :
    I.i12 (ix2 r 0) = BitVec.ofNat 32 (top (prob1 I r) 2).val := idx2 (row1_ok I r h h')
theorem i13_apply (h : Pos (prob0 I r)) (h' : Pos (prob1 I r)) :
    I.i13 (ix2 r 0) = BitVec.ofNat 32 (top (prob1 I r) 3).val := idx3 (row1_ok I r h h')

/-- The first result's row is the model's head over the row after both layers. -/
theorem res_row (h : Pos (prob0 I r)) (h' : Pos (prob1 I r)) (k : Fin 8) : I.res (ix2 r k)
    = head (last I r) (fun d j => I.wh1 (ix2 d j)) (fun j k => I.wh2 (ix2 j k)) k := by
  rw [res_apply]
  have hz : ∀ d, I.z15 (ix2 r d) * ((1 / 16 : ℝ) : EReal) = mix (next I r) (prob1 I r) (up1 I) (down1 I) d := fun d => by
    rw [z15_apply, ← mix_scaled _ _ h']
    simp only [x1_row I r h, g1_apply I r h h']
    rfl
  simp only [hz, x1_row I r h]
  rfl

end Cert.Proof.Rows
-- ==== Proof.Features.lean ====
/-
  THE FEATURES OF A ROW. A row's features are the embedding of its operation, eight bits of each operand and the carry, and
  its first vector is their product with the projection. The body uses 32 features against a combined projection whose first
  eight rows are the embeddings already projected; row by row the two are the same.
-/
module

public import proofs.«01_k».proof.Proof.Rows
public import Idealize.ShloMosaic.Lib.Affine

@[expose] public section

noncomputable section

namespace Cert.Proof.Features

open Idealize.ShloMosaic Cert.KernelIdeal Cert.KernelIdeal.Gen
open Cert.Proof.Block Cert.Proof.Consts Cert.Proof.Model Cert.Proof.Rows Cert.Proof.Finite

/-- A word as a number. -/
def num (w : BitVec 32) : EReal := ((w.toInt : ℝ) : EReal)

/-- Bit `i` of a word, as a number. -/
def bit (w : BitVec 32) (i : Fin 8) : EReal := num (IntOp.andi (w.sshiftRight i.val) 1#32)

/-- The embedding row an operation's word names. -/
def pick (o : BitVec 32) : Fin 8 := ⟨o.toNat % 8, Nat.mod_lt _ (by decide)⟩

/-- A row's first vector: embedding, bits of both operands and carry against the projection. -/
def start (o a b c : BitVec 32) (E : Fin 8 → Fin 32 → EReal) (W : Fin 49 → Fin 256 → EReal) (d : Fin 256) : EReal :=
  (∑ j : Fin 32, E (pick o) j * W ⟨j.val, by omega⟩ d) + ((∑ i : Fin 8, bit a i * W ⟨32 + i.val, by omega⟩ d)
    + ((∑ i : Fin 8, bit b i * W ⟨40 + i.val, by omega⟩ d) + num c * W ⟨48, by omega⟩ d))

/-- The body's feature in lane `x`. -/
def feat (o a b c : BitVec 32) (x : Fin 32) : EReal :=
  if x.val < 8 then (if o = BitVec.ofNat 32 x.val then 1 else 0)
  else if x.val < 16 then bit a ⟨(x.val - 8) % 8, Nat.mod_lt _ (by decide)⟩
  else if x.val < 24 then bit b ⟨(x.val - 16) % 8, Nat.mod_lt _ (by decide)⟩
  else if x.val = 24 then num c else 0

theorem sitofp_num (w : BitVec 32) : (FloatOps.sitofp .f32 w : Ideal .f32) = num w := rfl

theorem lane_lt8 (x : Fin 32) : IntOp.cmpi .slt (BitVec.ofNat 32 x.val) 8#32 = 1 ↔ x.val < 8 := by
  have h : ∀ x : Fin 32, IntOp.cmpi .slt (BitVec.ofNat 32 x.val) 8#32 = 1 ↔ x.val < 8 := by decide
  exact h x
theorem lane_lt16 (x : Fin 32) : IntOp.cmpi .slt (BitVec.ofNat 32 x.val) 16#32 = 1 ↔ x.val < 16 := by
  have h : ∀ x : Fin 32, IntOp.cmpi .slt (BitVec.ofNat 32 x.val) 16#32 = 1 ↔ x.val < 16 := by decide
  exact h x
theorem lane_lt24 (x : Fin 32) : IntOp.cmpi .slt (BitVec.ofNat 32 x.val) 24#32 = 1 ↔ x.val < 24 := by
  have h : ∀ x : Fin 32, IntOp.cmpi .slt (BitVec.ofNat 32 x.val) 24#32 = 1 ↔ x.val < 24 := by decide
  exact h x
theorem lane_eq24 (x : Fin 32) : IntOp.cmpi .eq (BitVec.ofNat 32 x.val) 24#32 = 1 ↔ x.val = 24 := by
  have h : ∀ x : Fin 32, IntOp.cmpi .eq (BitVec.ofNat 32 x.val) 24#32 = 1 ↔ x.val = 24 := by decide
  exact h x

theorem clip8 (x : Fin 32) (h : ¬ x.val < 8) (h' : x.val < 16) :
    IntOp.minsi 7#32 (IntOp.maxsi 0#32 (IntOp.subi (BitVec.ofNat 32 x.val) 8#32)) = BitVec.ofNat 32 ((x.val - 8) % 8) := by
  have k : ∀ x : Fin 32, ¬ x.val < 8 → x.val < 16 →
    IntOp.minsi 7#32 (IntOp.maxsi 0#32 (IntOp.subi (BitVec.ofNat 32 x.val) 8#32)) = BitVec.ofNat 32 ((x.val - 8) % 8) := by decide
  exact k x h h'

theorem clip16 (x : Fin 32) (h : ¬ x.val < 16) (h' : x.val < 24) :
    IntOp.minsi 7#32 (IntOp.maxsi 0#32 (IntOp.subi (BitVec.ofNat 32 x.val) 16#32)) = BitVec.ofNat 32 ((x.val - 16) % 8) := by
  have k : ∀ x : Fin 32, ¬ x.val < 16 → x.val < 24 →
    IntOp.minsi 7#32 (IntOp.maxsi 0#32 (IntOp.subi (BitVec.ofNat 32 x.val) 16#32)) = BitVec.ofNat 32 ((x.val - 16) % 8) := by decide
  exact k x h h'

/-- A shift by a number below eight is the plain arithmetic shift, on either unit. -/
theorem shift_small (u : ArithUnit) (w : BitVec 32) (n : ℕ) (h : n < 8) :
    IntOp.shrsi u w (BitVec.ofNat 32 n) = w.sshiftRight n := by
  have e : (BitVec.ofNat 32 n).toNat = n := by rw [BitVec.toNat_ofNat]; exact Nat.mod_eq_of_lt (by omega)
  unfold IntOp.shrsi
  rw [e, if_pos (by omega), BitVec.sshiftRight_eq', e]

theorem hot_num (o : BitVec 32) (n : ℕ) :
    (FloatOps.sitofp .f32 (BitVec.setWidth 32 (IntOp.cmpi .eq o (BitVec.ofNat 32 n))) : Ideal .f32) = if o = BitVec.ofNat 32 n then 1 else 0 := by
  rw [sitofp_num]
  by_cases h : o = BitVec.ofNat 32 n
  · rw [if_pos h, IntOp.cmpi_eq.mpr h]
    have : (BitVec.setWidth 32 1#1).toInt = 1 := by decide
    simp [num, this]
  · have h0 : IntOp.cmpi .eq o (BitVec.ofNat 32 n) = 0#1 := by
      have := mt IntOp.cmpi_eq.mp h
      generalize IntOp.cmpi .eq o (BitVec.ofNat 32 n) = z at this ⊢
      revert this; revert z; decide
    rw [if_neg h, h0]
    have : (BitVec.setWidth 32 0#1).toInt = 0 := by decide
    simp [num, this]

variable (I : In Ideal) (r : Fin 512)

theorem x0_apply (d : Fin 256) : I.x0 (ix2 r d)
    = ∑ x : Fin 32, feat (I.op (ix2 r 0)) (I.a (ix2 r 0)) (I.b (ix2 r 0)) (I.c (ix2 r 0)) x * I.weff (ix2 x d) := by
  unfold In.x0 k0_pay51 In.hotOp k0_pay47 k0_pay46 In.bitsA k0_pay48 In.bitsB k0_pay49 In.coefC k0_pay50 lanes32
  pointwise
  refine Finset.sum_congr rfl fun x _ => congrArg (· * I.weff (ix2 x d)) ?_
  simp only [Scalar.select, lane_lt8, lane_lt16, lane_lt24, lane_eq24]
  unfold feat
  split
  · exact hot_num _ _
  split
  · rename_i h h'
    rw [clip8 x h h', shift_small _ _ _ (Nat.mod_lt _ (by decide))]
    rfl
  split
  · rename_i h h'
    rw [clip16 x h h', shift_small _ _ _ (Nat.mod_lt _ (by decide))]
    rfl
  split
  · rfl
  · rfl

theorem position_eq : position I r = num (I.op (ix2 r 0)) := by
  unfold position In.pos In.opWord k0_pay52 k0_pay46
  pointwise
  rfl

theorem ofNat_pick (o : BitVec 32) (h : o.toNat < 8) (k : Fin 8) : o = BitVec.ofNat 32 k.val ↔ pick o = k := by
  constructor
  · rintro rfl
    refine Fin.ext ?_
    show (BitVec.ofNat 32 k.val).toNat % 8 = k.val
    rw [BitVec.toNat_ofNat]
    omega
  · rintro rfl
    refine BitVec.eq_of_toNat_eq ?_
    rw [BitVec.toNat_ofNat]
    show o.toNat = o.toNat % 8 % 2 ^ 32
    omega

/-- Over a combined projection made of the embeddings and the projection, the 32 features give the row's first vector. -/
theorem feats_start (o a b c : BitVec 32) (ho : o.toNat < 8) (E : Fin 8 → Fin 32 → EReal) (W : Fin 49 → Fin 256 → EReal)
    (w : Fin 32 → EReal) (d : Fin 256)
    (h0 : ∀ k : Fin 8, w ⟨k.val, by omega⟩ = ∑ j : Fin 32, E k j * W ⟨j.val, by omega⟩ d)
    (h1 : ∀ k : Fin 8, w ⟨8 + k.val, by omega⟩ = W ⟨32 + k.val, by omega⟩ d)
    (h2 : ∀ k : Fin 8, w ⟨16 + k.val, by omega⟩ = W ⟨40 + k.val, by omega⟩ d)
    (h3 : w ⟨24, by omega⟩ = W ⟨48, by omega⟩ d) :
    (∑ x : Fin 32, feat o a b c x * w x) = start o a b c E W d := by
  have hs : (∑ x : Fin 32, feat o a b c x * w x)
      = (∑ k : Fin 8, feat o a b c ⟨k.val, by omega⟩ * w ⟨k.val, by omega⟩)
        + ((∑ k : Fin 8, feat o a b c ⟨8 + k.val, by omega⟩ * w ⟨8 + k.val, by omega⟩)
        + ((∑ k : Fin 8, feat o a b c ⟨16 + k.val, by omega⟩ * w ⟨16 + k.val, by omega⟩)
        + ∑ k : Fin 8, feat o a b c ⟨24 + k.val, by omega⟩ * w ⟨24 + k.val, by omega⟩)) := by
    refine (Fin.sum_univ_add (a := 8) (b := 24) fun x : Fin 32 => feat o a b c x * w x).trans ?_
    refine congrArg₂ (· + ·) rfl ?_
    refine (Fin.sum_univ_add (a := 8) (b := 16) fun x : Fin 24 => feat o a b c (Fin.natAdd 8 x : Fin 32) * w (Fin.natAdd 8 x : Fin 32)).trans ?_
    refine congrArg₂ (· + ·) rfl ?_
    refine (Fin.sum_univ_add (a := 8) (b := 8) fun x : Fin 16 => feat o a b c (Fin.natAdd 8 (Fin.natAdd 8 x : Fin 24) : Fin 32) * w (Fin.natAdd 8 (Fin.natAdd 8 x : Fin 24) : Fin 32)).trans ?_
    refine congrArg₂ (· + ·) ?_ ?_ <;>
    · refine Finset.sum_congr rfl fun k _ => ?_
      congr 2 <;> exact Fin.ext (by simp <;> omega)
  rw [hs]
  unfold start
  refine congrArg₂ (· + ·) ?_ (congrArg₂ (· + ·) ?_ (congrArg₂ (· + ·) ?_ ?_))
  · rw [← h0 (pick o), Finset.sum_eq_single (pick o)]
    · unfold feat
      rw [if_pos (pick o).isLt, if_pos ((ofNat_pick o ho (pick o)).mpr rfl), one_mul]
    · intro k _ hk
      unfold feat
      rw [if_pos k.isLt, if_neg fun e => hk ((ofNat_pick o ho k).mp e).symm, zero_mul]
    · exact fun h => absurd (Finset.mem_univ _) h
  · refine Finset.sum_congr rfl fun k _ => ?_
    rw [h1]
    unfold feat
    rw [if_neg (by show ¬ (8 + k.val < 8); omega), if_pos (by show 8 + k.val < 16; omega)]
    refine congrArg (fun i => bit a i * _) (Fin.ext ?_)
    show (8 + k.val - 8) % 8 = k.val
    omega
  · refine Finset.sum_congr rfl fun k _ => ?_
    rw [h2]
    unfold feat
    rw [if_neg (by show ¬ (16 + k.val < 8); omega), if_neg (by show ¬ (16 + k.val < 16); omega),
      if_pos (by show 16 + k.val < 24; omega)]
    refine congrArg (fun i => bit b i * _) (Fin.ext ?_)
    show (16 + k.val - 16) % 8 = k.val
    omega
  · rw [Finset.sum_eq_single (0 : Fin 8)]
    · unfold feat
      rw [if_neg (by show ¬ (24 + 0 < 8); omega), if_neg (by show ¬ (24 + 0 < 16); omega), if_neg (by show ¬ (24 + 0 < 24); omega),
        if_pos (by show 24 + 0 = 24; omega)]
      exact congrArg (num c * ·) h3
    · intro k _ hk
      have : k.val ≠ 0 := fun e => hk (Fin.ext e)
      unfold feat
      rw [if_neg (by show ¬ (24 + k.val < 8); omega), if_neg (by show ¬ (24 + k.val < 16); omega),
        if_neg (by show ¬ (24 + k.val < 24); omega), if_neg (by show ¬ (24 + k.val = 24); omega), zero_mul]
    · exact fun h => absurd (Finset.mem_univ _) h

end Cert.Proof.Features
-- ==== Proof.Spec.lean ====
/-
  WHAT BOTH PROGRAMS COMPUTE, row by row, from the arguments read as plain functions: the row before the first layer, the two
  layers' probabilities, the four positions, the result, and the load figure over all rows.
-/
module

public import proofs.«01_k».proof.Proof.Features

@[expose] public section

noncomputable section

namespace Cert.Proof.Spec

open Idealize.ShloMosaic Cert.Proof.Model Cert.Proof.Finite Cert.Proof.Features

/-- The arguments both programs use. -/
structure Args where
  op : Fin 4096 → BitVec 32
  a : Fin 4096 → BitVec 32
  b : Fin 4096 → BitVec 32
  c : Fin 4096 → BitVec 32
  E : Fin 8 → Fin 32 → EReal
  W : Fin 49 → Fin 256 → EReal
  key : Fin 2 → Fin 16 → Fin 256 → EReal
  spot : Fin 2 → Fin 16 → EReal
  up : Fin 2 → Fin 16 → Fin 256 → Fin 512 → EReal
  down : Fin 2 → Fin 16 → Fin 512 → Fin 256 → EReal
  wh1 : Fin 256 → Fin 64 → EReal
  wh2 : Fin 64 → Fin 8 → EReal

/-- What the precondition says of them. -/
structure Args.Good (A : Args) : Prop where
  op : ∀ R, (A.op R).toNat < 8
  E : ∀ k j, IsReal (A.E k j)
  W : ∀ x d, IsReal (A.W x d)
  key : ∀ l t d, IsReal (A.key l t d)
  spot : ∀ l t, IsReal (A.spot l t)
  up : ∀ t d f, IsReal (A.up 0 t d f)
  down : ∀ t f e, IsReal (A.down 0 t f e)

variable (A : Args) (R : Fin 4096)

/-- The row before the first layer. -/
def Args.x0 (d : Fin 256) : EReal := start (A.op R) (A.a R) (A.b R) (A.c R) A.E A.W d

/-- The row's position. -/
def Args.pos : EReal := num (A.op R)

/-- The first layer's probabilities. -/
def Args.p0 : Fin 16 → EReal := probs (A.x0 R) (A.pos R) (A.key 0) (A.spot 0)

/-- The row after the first layer. -/
def Args.x1 (e : Fin 256) : EReal := A.x0 R e + mix (A.x0 R) (A.p0 R) (A.up 0) (A.down 0) e

/-- The second layer's probabilities. -/
def Args.p1 : Fin 16 → EReal := probs (A.x1 R) (A.pos R) (A.key 1) (A.spot 1)

/-- The row after the second layer. -/
def Args.x2 (e : Fin 256) : EReal := A.x1 R e + mix (A.x1 R) (A.p1 R) (A.up 1) (A.down 1) e

/-- The first result. -/
def Args.res (k : Fin 8) : EReal := head (A.x2 R) A.wh1 A.wh2 k

/-- The second result: the positions of the four greatest probabilities of the second layer. -/
def Args.place (k : Fin 4) : BitVec 32 := BitVec.ofNat 32 (top (A.p1 R) k).val

/-- The four quantities summed over the rows. -/
def Args.amount (k : Fin 4) (t : Fin 16) : EReal := ![A.p0 R t, used (A.p0 R) t, A.p1 R t, used (A.p1 R) t] k

/-- The third result. -/
def Args.load : EReal :=
  (∑ t : Fin 16, ((∑ R, A.amount R 0 t) * (∑ R, A.amount R 1 t) + (∑ R, A.amount R 2 t) * (∑ R, A.amount R 3 t)))
    * ((1 / 1048576 : ℝ) : EReal)

theorem num_real (w : BitVec 32) : IsReal (num w) := isReal_coe _

variable {A}

theorem Args.Good.x0_real (h : A.Good) (d : Fin 256) : IsReal (A.x0 R d) :=
  (IsReal.sum _ _ fun j _ => (h.E _ j).mul (h.W _ d)).add
    ((IsReal.sum _ _ fun i _ => (num_real _).mul (h.W _ d)).add
      ((IsReal.sum _ _ fun i _ => (num_real _).mul (h.W _ d)).add ((num_real _).mul (h.W _ d))))

theorem Args.Good.p0_pos (h : A.Good) : Pos (A.p0 R) :=
  probs_pos _ _ _ _ (h.x0_real R) (num_real _) (h.key 0) (h.spot 0)

theorem Args.Good.x1_real (h : A.Good) (d : Fin 256) : IsReal (A.x1 R d) :=
  (h.x0_real R d).add (mix_real _ _ (h.p0_pos R) _ _ (h.x0_real R) h.up h.down d)

theorem Args.Good.p1_pos (h : A.Good) : Pos (A.p1 R) :=
  probs_pos _ _ _ _ (h.x1_real R) (num_real _) (h.key 1) (h.spot 1)

end Cert.Proof.Spec
-- ==== Proof.Tally.lean ====
/-
  THE AUXILIARY SUMS OF A BLOCK. Four rows of sixteen: the block's probabilities summed over its rows and the number of its
  positive gates, for each of the two layers. A point adds its block's to what it finds; the last point multiplies the rows
  in pairs and sums.
-/
module

public import proofs.«01_k».proof.Proof.Rows

@[expose] public section

noncomputable section

namespace Cert.Proof.Tally

open Idealize.ShloMosaic Cert.KernelIdeal Cert.KernelIdeal.Gen
open Cert.Proof.Block Cert.Proof.Consts Cert.Proof.Model Cert.Proof.Rows Cert.Proof.Finite

section Overlay

variable {α : Type} (n : ℕ) (h : ∀ a, (![n, 0] : Fin 2 → ℕ) a + S1x16.size a ≤ S8x16.size a) (X : S8x16.Idx → α) (k : Fin 8) (t : Fin 16)

theorem emb_row (hk : k.val = n) : (Rect.unit (s := S8x16) ![n, 0] S1x16.size h).emb (ix2 (0 : Fin 1) t) = ix2 k t := by
  funext a
  refine Fin.ext ?_
  match a with
  | ⟨0, _⟩ => show n + 1 * 0 = k.val; omega
  | ⟨1, _⟩ => show 0 + 1 * t.val = t.val; omega

theorem over_hit (hk : k.val = n) (w : S1x16.Idx → α) :
    (Rect.unit (s := S8x16) ![n, 0] S1x16.size h).overlay X w (ix2 k t) = w (ix2 0 t) := by
  rw [← emb_row n h k t hk]
  exact Rect.overlay_emb _ _ _ _

theorem over_miss (hk : k.val ≠ n) (w : S1x16.Idx → α) :
    (Rect.unit (s := S8x16) ![n, 0] S1x16.size h).overlay X w (ix2 k t) = X (ix2 k t) := by
  refine Rect.overlay_of_not_mem _ _ _ ?_
  intro hm
  rw [Rect.mem_set_unit] at hm
  have h0 : n ≤ k.val ∧ k.val < n + 1 := hm 0
  omega

end Overlay

theorem ld_row (n : ℕ) (h : ∀ a, (![n, 0] : Fin 2 → ℕ) a + S1x16.size a ≤ S8x16.size a) (X : Vec Ideal S8x16 .f32) (k : Fin 8)
    (t : Fin 16) (hk : k.val = n) : View.ld X (Rect.unit (s := S8x16) ![n, 0] S1x16.size h) (ix2 (0 : Fin 1) t) = X (ix2 k t) :=
  congrArg X (emb_row n h k t hk)

variable (I : In Ideal) (X : Vec Ideal S8x16 .f32)

/-- What row `r` of the block adds to the four sums at `t`. -/
def amount (k : Fin 4) (r : Fin 512) (t : Fin 16) : EReal :=
  ![prob0 I r t, used (prob0 I r) t, prob1 I r t, used (prob1 I r) t] k

theorem count_num (g : EReal) :
    (FloatOps.sitofp .f32 (BitVec.setWidth 32 (FloatOps.cmpf (F := Ideal) (φ := .f32) .ogt g 0)) : Ideal .f32) = if 0 < g then 1 else 0 := by
  have e : (FloatOps.cmpf (F := Ideal) (φ := .f32) .ogt g 0 : BitVec 1) = BitVec.ofBool (decide (0 < g)) := rfl
  rw [e]
  by_cases h : 0 < g
  · rw [if_pos h, decide_eq_true h]
    have : (BitVec.setWidth 32 (BitVec.ofBool true)).toInt = 1 := by decide
    show (((BitVec.setWidth 32 (BitVec.ofBool true)).toInt : ℝ) : EReal) = 1
    rw [this]; norm_num
  · rw [if_neg h, decide_eq_false h]
    have : (BitVec.setWidth 32 (BitVec.ofBool false)).toInt = 0 := by decide
    show (((BitVec.setWidth 32 (BitVec.ofBool false)).toInt : ℝ) : EReal) = 0
    rw [this]; norm_num

/-- Row `k` of the sums. -/
abbrev sumRow (k : Fin 4) : Fin 8 := ⟨k.val, by omega⟩

theorem pay83_apply (s : FVec Ideal S1x16 .f32) (v : Vec Ideal S1x16 .f32) (t : Fin 16) :
    k0_pay83 v s (ix2 0 t) = v (ix2 0 t) + s (ix2 0 t) := by
  unfold k0_pay83; pointwise

theorem pay82_apply (p : FVec Ideal S512x16 .f32) (t : Fin 16) : k0_pay82 p (ix2 0 t) = ∑ r : Fin 512, p (ix2 r t) := by
  unfold k0_pay82; pointwise

theorem pay114_apply (p : FVec Ideal S512x16 .f32) (v : Vec Ideal S1x16 .f32) (t : Fin 16) :
    k0_pay114 p v (ix2 0 t) = v (ix2 0 t) + ∑ r : Fin 512, p (ix2 r t) := by
  unfold k0_pay114; pointwise

theorem pay84_apply (g : FVec Ideal S512x16 .f32) (v : Vec Ideal S1x16 .f32) (t : Fin 16) :
    k0_pay84 g v (ix2 0 t) = v (ix2 0 t) + ∑ r : Fin 512, if 0 < g (ix2 r t) then 1 else 0 := by
  unfold k0_pay84
  pointwise
  refine congrArg (_ + ·) (Finset.sum_congr rfl fun r _ => ?_)
  exact count_num _

theorem pay115_eq (g : FVec Ideal S512x16 .f32) (v : Vec Ideal S1x16 .f32) : k0_pay115 g v = k0_pay84 g v := rfl

/-- A block's sums over what was there before it. -/
theorem auxAfter_apply (h : ∀ r, Pos (prob0 I r)) (h' : ∀ r, Pos (prob1 I r)) (k : Fin 4) (t : Fin 16) :
    auxAfter I X (ix2 (sumRow k) t) = X (ix2 (sumRow k) t) + ∑ r : Fin 512, amount I k r t := by
  unfold auxAfter auxRows
  match k with
  | ⟨0, _⟩ =>
    rw [over_miss 3 _ _ _ _ (show (0 : ℕ) ≠ 3 by decide), over_miss 2 _ _ _ _ (show (0 : ℕ) ≠ 2 by decide), over_miss 1 _ _ _ _ (show (0 : ℕ) ≠ 1 by decide),
      over_hit 0 _ _ _ _ rfl, pay83_apply, ld_row 0 _ X (sumRow 0) t rfl]
    refine congrArg (_ + ·) ?_
    rw [In.sum0, pay82_apply]
    exact Finset.sum_congr rfl fun r _ => p0_apply I r t
  | ⟨1, _⟩ =>
    rw [over_miss 3 _ _ _ _ (show (1 : ℕ) ≠ 3 by decide), over_miss 2 _ _ _ _ (show (1 : ℕ) ≠ 2 by decide), over_hit 1 _ _ _ _ rfl, pay84_apply,
      ld_row 1 _ X (sumRow 1) t rfl]
    refine congrArg (_ + ·) (Finset.sum_congr rfl fun r _ => ?_)
    rw [g0_apply I r (h r)]
    rfl
  | ⟨2, _⟩ =>
    rw [over_miss 3 _ _ _ _ (show (2 : ℕ) ≠ 3 by decide), over_hit 2 _ _ _ _ rfl, pay114_apply, ld_row 2 _ X (sumRow 2) t rfl]
    refine congrArg (_ + ·) (Finset.sum_congr rfl fun r _ => p1_apply I r (h r) t)
  | ⟨3, _⟩ =>
    rw [over_hit 3 _ _ _ _ rfl, pay115_eq, pay84_apply, ld_row 3 _ X (sumRow 3) t rfl]
    refine congrArg (_ + ·) (Finset.sum_congr rfl fun r _ => ?_)
    rw [g1_apply I r (h r) (h' r)]
    rfl

/-- The third result from the sums. -/
theorem total_apply (v : Vec Ideal S8x16 .f32) : k0_pay1 v (ix2 0 0)
    = (∑ t : Fin 16, (v (ix2 (sumRow 0) t) * v (ix2 (sumRow 1) t) + v (ix2 (sumRow 2) t) * v (ix2 (sumRow 3) t)))
      * ((1 / 1048576 : ℝ) : EReal) := by
  unfold k0_pay1
  pointwise
  rw [scale_f32, Fintype.sum_unique]
  rfl

theorem zeros_apply (k : Fin 8) (t : Fin 16) : (k0_pay45 (FloatOps.ofBits FTy.f32 0#32) : FVec Ideal S8x16 .f32) (ix2 k t) = 0 := by
  unfold k0_pay45
  pointwise

end Cert.Proof.Tally
-- ==== Proof.Held.lean ====
/-
  THE ROWS OF THE GRID. Row r of point t computes row 512 t + r of the model, at the launched arguments.
-/
module

public import proofs.«01_k».proof.Proof.Points
public import proofs.«01_k».proof.Proof.Prepare
public import proofs.«01_k».proof.Proof.Entry
public import proofs.«01_k».proof.Proof.Spec
public import proofs.«01_k».proof.Proof.Tally

@[expose] public section

noncomputable section

namespace Cert.Proof.Held

open Idealize.ShloMosaic Idealize.SL.Sem Cert.KernelIdeal Cert.KernelIdeal.Gen
open Cert.Proof.Block Cert.Proof.Points Cert.Proof.Entry Cert.Proof.Spec Cert.Proof.Rows Cert.Proof.Experts Cert.Proof.Features
open Cert.Proof.Model Cert.Proof.Pieces Cert.Proof.Tally

variable (m : (ℓ : Loc nD τ sig) → Buf (Elt Ideal) ℓ) (c : Dev nD)

/-- The launched arguments, read as functions. -/
def args : Args where
  op R := arg0 m c (ix1 R)
  a R := arg1 m c (ix1 R)
  b R := arg2 m c (ix1 R)
  c R := arg3 m c (ix1 R)
  E k j := arg4 m c (ix2 k j)
  W x d := arg5 m c (ix2 x d)
  key l t d := arg7 m c (ix3 l t d)
  spot l t := arg8 m c (ix2 l t)
  up l t d f := arg9 m c (ix4 l t d f)
  down l t f e := arg11 m c (ix4 l t f e)
  wh1 d j := arg13 m c (ix2 d j)
  wh2 j k := arg15 m c (ix2 j k)

set_option maxHeartbeats 1000000 in
theorem w1b_apply (t : Fin 16) (d : Fin 256) (f : Fin 512) : w1b m c (ix3 t d f) = (args m c).up 0 t d f := by
  unfold w1b
  rw [outsAt0_A m c ⟨0, first_lt⟩ rfl (show ¬0 % 8 = 7 by decide)]
  dsimp only
  refine (Prepare.w1b ..).trans ?_
  exact congrFun (whole8 m c _) _

set_option maxHeartbeats 1000000 in
theorem w1q_apply (t : Fin 16) (d : Fin 256) (f : Fin 512) : w1q m c (ix3 t d f) = (args m c).up 1 t d f := by
  unfold w1q
  rw [outsAt0_A m c ⟨0, first_lt⟩ rfl (show ¬0 % 8 = 7 by decide)]
  dsimp only
  refine (Prepare.w1q ..).trans ?_
  exact congrFun (whole8 m c _) _

set_option maxHeartbeats 1000000 in
theorem w2q_apply (t : Fin 16) (f : Fin 512) (d : Fin 256) : w2q m c (ix3 t f d) = (args m c).down 1 t f d := by
  unfold w2q
  rw [outsAt0_A m c ⟨0, first_lt⟩ rfl (show ¬0 % 8 = 7 by decide)]
  dsimp only
  refine (Prepare.w2q ..).trans ?_
  exact congrFun (whole9 m c _) _

set_option maxHeartbeats 1000000 in
theorem weff_eq : weff m c = View.canon (weffPieces (arg4 m c) (arg5 m c)) := by
  unfold weff
  rw [outsAt0_A m c ⟨0, first_lt⟩ rfl (show ¬0 % 8 = 7 by decide)]
  dsimp only
  refine (Prepare.weff_eq ..).trans ?_
  exact congrArg₂ (fun y z => View.canon (weffPieces y z)) (whole4 m c _) (whole5 m c _)

set_option maxHeartbeats 1000000 in
theorem keyst_apply (l : Fin 2) (d : Fin 256) (t : Fin 16) : keyst m c (ix3 l d t) = (args m c).key l t d := by
  unfold keyst
  rw [outsAt0_A m c ⟨0, first_lt⟩ rfl (show ¬0 % 8 = 7 by decide)]
  dsimp only
  refine (congrFun (Prepare.keyst_eq ..) _).trans ((canon_keys _ l d t).trans ?_)
  exact congrFun (whole6 m c _) _

attribute [local irreducible] w1b w1q w2q weff keyst

variable (t : Fin cfg0.N) (r : Fin 512)

/-- A load of a whole array is the array. -/
theorem ld_whole2 {n0 n1 : ℕ} {e : EltTy} (X : Vec Ideal ⟨2, ![n0, n1]⟩ e)
    (h : ∀ a, (![0, 0] : Fin 2 → ℕ) a + (⟨2, ![n0, n1]⟩ : Shape).size a ≤ (⟨2, ![n0, n1]⟩ : Shape).size a) (i : Fin n0) (j : Fin n1) :
    View.ld X (Rect.unit (s := ⟨2, ![n0, n1]⟩) ![0, 0] (⟨2, ![n0, n1]⟩ : Shape).size h) (ix2 i j) = X (ix2 i j) := by
  refine congrArg X (funext fun a => Fin.ext ?_)
  match a with
  | ⟨0, _⟩ => show 0 + 1 * i.val = i.val; omega
  | ⟨1, _⟩ => show 0 + 1 * j.val = j.val; omega

theorem op_at : (inAt m c t).op (ix2 r 0) = (args m c).op (rowOf t r) := (ld_whole2 _ _ r 0).trans (col0 m c t r)
theorem a_at : (inAt m c t).a (ix2 r 0) = (args m c).a (rowOf t r) := (ld_whole2 _ _ r 0).trans (col1 m c t r)
theorem b_at : (inAt m c t).b (ix2 r 0) = (args m c).b (rowOf t r) := (ld_whole2 _ _ r 0).trans (col2 m c t r)
theorem c_at : (inAt m c t).c (ix2 r 0) = (args m c).c (rowOf t r) := (ld_whole2 _ _ r 0).trans (col3 m c t r)

theorem weff_at (x : Fin 32) (d : Fin 256) :
    (inAt m c t).weff (ix2 x d) = View.canon (weffPieces (arg4 m c) (arg5 m c)) (ix2 x d) :=
  (ld_whole2 _ _ x d).trans (congrFun (weff_eq m c) _)

theorem keys0_at : keys0 (inAt m c t) = (args m c).key 0 := by
  funext e d
  refine Eq.trans (congrArg (keyst m c) (funext fun a => Fin.ext ?_)) (keyst_apply m c 0 d e)
  match a with
  | ⟨0, _⟩ => rfl
  | ⟨1, _⟩ => show 0 + 1 * d.val = d.val; omega
  | ⟨2, _⟩ => show 0 + 1 * e.val = e.val; omega

theorem keys1_at : keys1 (inAt m c t) = (args m c).key 1 := by
  funext e d
  refine Eq.trans (congrArg (keyst m c) (funext fun a => Fin.ext ?_)) (keyst_apply m c 1 d e)
  match a with
  | ⟨0, _⟩ => rfl
  | ⟨1, _⟩ => show 0 + 1 * d.val = d.val; omega
  | ⟨2, _⟩ => show 0 + 1 * e.val = e.val; omega

theorem spots0_at : spots0 (inAt m c t) = (args m c).spot 0 := by
  funext e
  refine Eq.trans (congrArg (iblk m c 7 t : Vec Ideal S2x16 .f32) (funext fun a => Fin.ext ?_)) (congrFun (whole7 m c t) (ix2 0 e))
  match a with
  | ⟨0, _⟩ => rfl
  | ⟨1, _⟩ => show 0 + 1 * e.val = e.val; omega

theorem spots1_at : spots1 (inAt m c t) = (args m c).spot 1 := by
  funext e
  refine Eq.trans (congrArg (iblk m c 7 t : Vec Ideal S2x16 .f32) (funext fun a => Fin.ext ?_)) (congrFun (whole7 m c t) (ix2 1 e))
  match a with
  | ⟨0, _⟩ => rfl
  | ⟨1, _⟩ => show 0 + 1 * e.val = e.val; omega

theorem up0_at : up0 (inAt m c t) = (args m c).up 0 := by
  funext e d f
  refine Eq.trans (congrArg (w1b m c) (funext fun a => Fin.ext ?_)) (w1b_apply m c e d f)
  match a with
  | ⟨0, _⟩ => show e.val + 1 * 0 = e.val; omega
  | ⟨1, _⟩ => show 0 + 1 * d.val = d.val; omega
  | ⟨2, _⟩ => show 0 + 1 * f.val = f.val; omega

theorem up1_at : up1 (inAt m c t) = (args m c).up 1 := by
  funext e d f
  refine Eq.trans (congrArg (w1q m c) (funext fun a => Fin.ext ?_)) (w1q_apply m c e d f)
  match a with
  | ⟨0, _⟩ => show e.val + 1 * 0 = e.val; omega
  | ⟨1, _⟩ => show 0 + 1 * d.val = d.val; omega
  | ⟨2, _⟩ => show 0 + 1 * f.val = f.val; omega

theorem down0_at : down0 (inAt m c t) = (args m c).down 0 := by
  funext e f d
  refine Eq.trans (congrArg (iblk m c 9 t : Vec Ideal S2x16x512x256 .bf16) (funext fun a => Fin.ext ?_)) (congrFun (whole9 m c t) (ix4 0 e f d))
  match a with
  | ⟨0, _⟩ => rfl
  | ⟨1, _⟩ => show e.val + 1 * 0 = e.val; omega
  | ⟨2, _⟩ => show 0 + 1 * f.val = f.val; omega
  | ⟨3, _⟩ => show 0 + 1 * d.val = d.val; omega

theorem down1_at : down1 (inAt m c t) = (args m c).down 1 := by
  funext e f d
  refine Eq.trans (congrArg (w2q m c) (funext fun a => Fin.ext ?_)) (w2q_apply m c e f d)
  match a with
  | ⟨0, _⟩ => show e.val + 1 * 0 = e.val; omega
  | ⟨1, _⟩ => show 0 + 1 * f.val = f.val; omega
  | ⟨2, _⟩ => show 0 + 1 * d.val = d.val; omega

theorem position_at : position (inAt m c t) r = (args m c).pos (rowOf t r) := by
  rw [position_eq, op_at]
  rfl

variable (h : (args m c).Good)

include h

theorem row_at : row (inAt m c t) r = (args m c).x0 (rowOf t r) := by
  funext d
  refine (x0_apply _ r d).trans ?_
  rw [op_at, a_at, b_at, c_at]
  exact feats_start _ _ _ _ (h.op _) (args m c).E (args m c).W (fun x => (inAt m c t).weff (ix2 x d)) d
    (fun k => (weff_at m c t _ d).trans (weff_head ..)) (fun k => (weff_at m c t _ d).trans (weff_a ..))
    (fun k => (weff_at m c t _ d).trans (weff_b ..)) ((weff_at m c t _ d).trans (weff_c ..))

theorem prob0_at : prob0 (inAt m c t) r = (args m c).p0 (rowOf t r) := by
  unfold prob0 Args.p0
  rw [row_at m c t r h, position_at, keys0_at, spots0_at]

theorem next_at : next (inAt m c t) r = (args m c).x1 (rowOf t r) := by
  funext e
  unfold next Args.x1
  rw [row_at m c t r h, prob0_at m c t r h, up0_at, down0_at]

theorem prob1_at : prob1 (inAt m c t) r = (args m c).p1 (rowOf t r) := by
  unfold prob1 Args.p1
  rw [next_at m c t r h, position_at, keys1_at, spots1_at]

theorem last_at : last (inAt m c t) r = (args m c).x2 (rowOf t r) := by
  funext e
  unfold last Args.x2
  rw [next_at m c t r h, prob1_at m c t r h, up1_at, down1_at]

theorem pos0 : Pos (prob0 (inAt m c t) r) := by
  rw [prob0_at m c t r h]
  exact h.p0_pos _

theorem pos1 : Pos (prob1 (inAt m c t) r) := by
  rw [prob1_at m c t r h]
  exact h.p1_pos _

theorem res_at (k : Fin 8) : (inAt m c t).res (ix2 r k) = (args m c).res (rowOf t r) k := by
  rw [res_row _ r (pos0 m c t r h) (pos1 m c t r h) k, last_at m c t r h]
  unfold Args.res
  refine congrArg₂ (fun y z => head _ y z k) (funext fun d => funext fun j => ?_) (funext fun j => funext fun k => ?_)
  · exact (ld_whole2 _ _ d j).trans (congrFun (whole10 m c t) _)
  · exact (ld_whole2 _ _ j k).trans (congrFun (whole11 m c t) _)

theorem amount_at (k : Fin 4) (e : Fin 16) : amount (inAt m c t) k r e = (args m c).amount (rowOf t r) k e := by
  unfold amount Args.amount
  rw [prob0_at m c t r h, prob1_at m c t r h]

end Cert.Proof.Held
-- ==== Proof.Arrays.lean ====
/-
  WHAT THE THREE RESULT ARRAYS END HOLDING: row by row the model's result and positions, and the model's load figure.
-/
module

public import proofs.«01_k».proof.Proof.Held

@[expose] public section

noncomputable section

namespace Cert.Proof.Arrays

open Idealize.ShloMosaic Idealize.SL.Sem Cert.KernelIdeal Cert.KernelIdeal.Gen Cert.KernelIdeal.Value
open Cert.Proof.Block Cert.Proof.Points Cert.Proof.Entry Cert.Proof.Spec Cert.Proof.Rows Cert.Proof.Held Cert.Proof.Tally
open Cert.Proof.Model Cert.Proof.Finite

variable (m : (ℓ : Loc nD τ sig) → Buf (Elt Ideal) ℓ) (c : Dev nD)

/-- Every point leaves the block values of what it reads. -/
theorem leaves : ∀ (n : ℕ) (hn : n < cfg0.N), ∃ X, Leaves (outsAt0 m c n hn) (inAt m c ⟨n, hn⟩) X
  | 0, _ => ⟨_, leaves_first m c⟩
  | n + 1, hn => ⟨_, leaves_next m c n hn⟩

theorem zero_off : ∀ a, (![0, 0] : Fin 2 → ℕ) a = 0 := by decide

/-- A point's block of the first result. -/
theorem res_block (n : ℕ) (hn : n < cfg0.N) : (outsAt0 m c n hn).1 = (inAt m c ⟨n, hn⟩).res := by
  obtain ⟨X, hX⟩ := leaves m c n hn
  rw [hX.res]
  exact View.canon_unit_zero (S := S512x8) (funext zero_off) _ _

section Column

variable (k : ℕ) (h : ∀ a, (![0, k] : Fin 2 → ℕ) a + S512x1.size a ≤ S512x4.size a) (w : S512x1.Idx → BitVec 32)
  (L : List (View.Piece (Elt Ideal) S512x4 .i32)) (r : Fin 512) (x : Fin 4)

theorem column_hit (hx : x.val = k) :
    View.canon (Val := Elt Ideal) (⟨Rect.unit (s := S512x4) ![0, k] S512x1.size h, w⟩ :: L) (ix2 r x) = w (ix2 r 0) := by
  have e : (Rect.unit (s := S512x4) ![0, k] S512x1.size h).emb (ix2 r 0) = ix2 r x := by
    funext a
    refine Fin.ext ?_
    match a with
    | ⟨0, _⟩ => show 0 + 1 * r.val = r.val; omega
    | ⟨1, _⟩ => show k + 1 * 0 = x.val; omega
  rw [← e, View.canon_cons_emb]

theorem column_miss (hx : x.val ≠ k) :
    View.canon (Val := Elt Ideal) (⟨Rect.unit (s := S512x4) ![0, k] S512x1.size h, w⟩ :: L) (ix2 r x) = View.canon L (ix2 r x) := by
  refine View.canon_cons_of_not_mem _ L fun hm => hx ?_
  rw [Rect.mem_set_unit] at hm
  have h0 : k ≤ x.val ∧ x.val < k + 1 := hm 1
  omega

end Column

variable (h : (args m c).Good)

include h

/-- A point's block of the second result. -/
theorem topi_block (n : ℕ) (hn : n < cfg0.N) (r : Fin 512) (k : Fin 4) :
    (outsAt0 m c n hn).2.1 (ix2 r k) = (args m c).place (rowOf ⟨n, hn⟩ r) k := by
  obtain ⟨X, hX⟩ := leaves m c n hn
  rw [hX.topi]
  have h0 := pos0 m c ⟨n, hn⟩ r h
  have h1 := pos1 m c ⟨n, hn⟩ r h
  unfold topBlock Args.place
  rw [← prob1_at m c ⟨n, hn⟩ r h]
  match k with
  | ⟨0, _⟩ =>
    rw [column_miss 3 _ _ _ _ _ (show (0 : ℕ) ≠ 3 by decide), column_miss 2 _ _ _ _ _ (show (0 : ℕ) ≠ 2 by decide),
      column_miss 1 _ _ _ _ _ (show (0 : ℕ) ≠ 1 by decide), column_hit 0 _ _ _ _ _ rfl]
    exact i10_apply _ r h0 h1
  | ⟨1, _⟩ =>
    rw [column_miss 3 _ _ _ _ _ (show (1 : ℕ) ≠ 3 by decide), column_miss 2 _ _ _ _ _ (show (1 : ℕ) ≠ 2 by decide),
      column_hit 1 _ _ _ _ _ rfl]
    exact i11_apply _ r h0 h1
  | ⟨2, _⟩ =>
    rw [column_miss 3 _ _ _ _ _ (show (2 : ℕ) ≠ 3 by decide), column_hit 2 _ _ _ _ _ rfl]
    exact i12_apply _ r h0 h1
  | ⟨3, _⟩ =>
    rw [column_hit 3 _ _ _ _ _ rfl]
    exact i13_apply _ r h0 h1

/-- What the sums hold after point `n`: the rows of the points so far. -/
theorem sums (k : Fin 4) (e : Fin 16) : ∀ (n : ℕ) (hn : n < cfg0.N),
    (outsAt0 m c n hn).2.2.2.2.2.2.2.2 (ix2 (sumRow k) e)
      = ∑ s : Fin (n + 1), ∑ r : Fin 512, (args m c).amount (rowOf ⟨s.val, lt_of_le_of_lt (Nat.lt_succ_iff.mp s.isLt) hn⟩ r) k e
  | 0, hn => by
    rw [(leaves_first m c).aux, auxAfter_apply _ _ (fun r => pos0 m c _ r h) (fun r => pos1 m c _ r h), zeros_apply, zero_add,
      Fin.sum_univ_one]
    exact Finset.sum_congr rfl fun r _ => amount_at m c ⟨0, first_lt⟩ r h k e
  | n + 1, hn => by
    rw [(leaves_next m c n hn).aux, auxAfter_apply _ _ (fun r => pos0 m c _ r h) (fun r => pos1 m c _ r h), sums k e n (Nat.lt_of_succ_lt hn)]
    refine Eq.trans ?_ (Fin.sum_univ_castSucc _).symm
    exact congrArg₂ (fun y z : EReal => y + z) rfl (Finset.sum_congr rfl fun r _ => amount_at m c ⟨n + 1, hn⟩ r h k e)

omit h in
/-- A sum over all rows is the sum over the eight blocks. -/
theorem by_blocks (f : Fin 4096 → EReal) :
    ∑ R, f R = ∑ s : Fin 8, ∑ r : Fin 512, f ⟨512 * s.val + r.val, by omega⟩ := by
  rw [← Fintype.sum_prod_type']
  refine (Fintype.sum_equiv (finProdFinEquiv (m := 8) (n := 512)) _ f fun x => congrArg f (Fin.ext ?_)).symm
  show 512 * x.1.val + x.2.val = x.2.val + 512 * x.1.val
  omega

/-- The first result array. -/
theorem res_array (R : Fin 4096) (k : Fin 8) : G12 m c (ix2 R k) = (args m c).res R k := by
  have hp : R.val / 512 < cfg0.N := lt_of_lt_of_eq (by omega) N_0.symm
  have hr : run12Of (ix2 R k) = R.val / 512 := by
    show 1 * (R.val / 512 - 0) + 1 * (k.val / 8 - 0) = _
    omega
  have hl : loc12Of (ix2 R k) = ix2 ⟨R.val % 512, Nat.mod_lt _ (by decide)⟩ k := by
    funext a
    refine Fin.ext ?_
    match a with
    | ⟨0, _⟩ => rfl
    | ⟨1, _⟩ => show k.val % 8 = k.val; omega
  have hR : rowOf ⟨R.val / 512, hp⟩ ⟨R.val % 512, Nat.mod_lt _ (by decide)⟩ = R := Fin.ext (by show 512 * (R.val / 512) + R.val % 512 = R.val; omega)
  unfold G12
  rw [dif_pos (show pt12Of (ix2 R k) < cfg0.N by show run12Of (ix2 R k) < _; rw [hr]; exact hp), hl,
    fold0_congr m c _ _ (R.val / 512) (by omega) hr, ← outsAt0_sweep m c _ hp, res_block, res_at m c _ _ h, hR]

/-- The second result array. -/
theorem topi_array (R : Fin 4096) (k : Fin 4) : G13 m c (ix2 R k) = (args m c).place R k := by
  have hp : R.val / 512 < cfg0.N := lt_of_lt_of_eq (by omega) N_0.symm
  have hr : run13Of (ix2 R k) = R.val / 512 := by
    show 1 * (R.val / 512 - 0) + 1 * (k.val / 4 - 0) = _
    omega
  have hl : loc13Of (ix2 R k) = ix2 ⟨R.val % 512, Nat.mod_lt _ (by decide)⟩ k := by
    funext a
    refine Fin.ext ?_
    match a with
    | ⟨0, _⟩ => rfl
    | ⟨1, _⟩ => show k.val % 4 = k.val; omega
  have hR : rowOf ⟨R.val / 512, hp⟩ ⟨R.val % 512, Nat.mod_lt _ (by decide)⟩ = R := Fin.ext (by show 512 * (R.val / 512) + R.val % 512 = R.val; omega)
  unfold G13
  rw [dif_pos (show pt13Of (ix2 R k) < cfg0.N by show run13Of (ix2 R k) < _; rw [hr]; exact hp), hl,
    fold0_congr m c _ _ (R.val / 512) (by omega) hr, ← outsAt0_sweep m c _ hp, topi_block m c h, hR]

/-- The third result. -/
theorem load_array (i : Fin 1) (j : Fin 1) : G14 m c (ix2 i j) = (args m c).load := by
  obtain rfl : i = 0 := Subsingleton.elim _ _
  obtain rfl : j = 0 := Subsingleton.elim _ _
  have hp : 7 < cfg0.N := lt_of_lt_of_eq (by decide) N_0.symm
  have hr : pt14Of (ix2 0 0) = 7 := rfl
  have hl : loc14Of (ix2 0 0) = ix2 0 0 := by
    funext a
    refine Fin.ext ?_
    match a with
    | ⟨0, _⟩ => rfl
    | ⟨1, _⟩ => rfl
  have hs : ∀ k e, (outsAt0 m c 7 hp).2.2.2.2.2.2.2.2 (ix2 (sumRow k) e) = ∑ R, (args m c).amount R k e := fun k e => by
    rw [sums m c h k e 7 hp, by_blocks]
    rfl
  unfold G14
  rw [dif_pos (show pt14Of (ix2 0 0) < cfg0.N from hp), hl, fold0_congr m c _ _ 7 (by omega) hr, ← outsAt0_sweep m c _ hp,
    leaves_total m c hp, View.canon_unit_zero (S := S1x1) (funext zero_off) _ _, total_apply]
  unfold Args.load
  refine congrArg (· * ((1 / 1048576 : ℝ) : EReal)) (Finset.sum_congr rfl fun e _ => ?_)
  exact congrArg₂ (fun y z : EReal => y + z)
    (congrArg₂ (fun y z : EReal => y * z) ((ld_whole2 _ _ _ _).trans (hs 0 e)) ((ld_whole2 _ _ _ _).trans (hs 1 e)))
    (congrArg₂ (fun y z : EReal => y * z) ((ld_whole2 _ _ _ _).trans (hs 2 e)) ((ld_whole2 _ _ _ _).trans (hs 3 e)))

end Cert.Proof.Arrays
-- ==== Proof.RefLayer.lean ====
/-
  ONE LAYER OF THE REFERENCE. The reference runs the same operations twice, once per layer. Here they are functions of the
  arrays they read, and each is read at a row: the logits, their softmax, the experts' outputs, the next vector.
-/
module

public import proofs.«01_k».proof.Proof.Gen.ReferenceIdeal.Read
public import proofs.«01_k».proof.Proof.Spec
public import Idealize.ShloMosaic.Lib.Pointwise

@[expose] public section

noncomputable section

namespace Cert.Proof.RefLayer

open Idealize.ShloMosaic Cert.ReferenceIdeal Cert.ReferenceIdeal.Gen
open Cert.Proof.Consts Cert.Proof.Model Cert.Proof.Finite

/-- An array of extended reals. -/
abbrev Arr (s : Shape) := FVec Ideal s .f32

/-- A scalar in every entry of a table of rows and experts. -/
abbrev fill16 (w : BitVec 32) : Arr S4096x16 := broadcastInDim S4096x16 ![] bcast_S_S4096x16 (constant (F := Ideal) S_ .f32 w)

/-- The distance of a row's position from an expert's. -/
def gapOf (P : Arr S4096x1) (T : Arr S16) : Arr S4096x16 :=
  subf (broadcastInDim S4096x16 ![0, 1] bcast_S4096x1_S4096x16_0_1 P)
    (broadcastInDim S4096x16 ![0, 1] bcast_S1x16_S4096x16_0_1 (broadcastInDim S1x16 ![1] bcast_S16_S1x16_1 T))

/-- The logits of every row. -/
def logitsOf (X : Arr S4096x256) (P : Arr S4096x1) (K : Arr S16x256) (T : Arr S16) : Arr S4096x16 :=
  addf
    (Host.divf
      (Host.dotGeneral dot_S4096x256_S256x16_S4096x16_1_0_0_1_n_n none X (transpose S256x16 [1, 0] K transposes_S16x256_S256x16_1_0))
      (broadcastInDim S4096x16 ![] bcast_S_S4096x16 (Host.sqrt (constant (F := Ideal) S_ .f32 0x43800000#32))))
    (Host.divf (Host.negf (mulf (gapOf P T) (gapOf P T))) (fill16 0x40900000#32))

/-- A number per row, in every column. -/
abbrev spread16 (v : Arr S4096) : Arr S4096x16 :=
  broadcastInDim S4096x16 ![0, 1] bcast_S4096x1_S4096x16_0_1 (broadcastInDim S4096x1 ![0] bcast_S4096_S4096x1_0 v)

/-- The exponentials of a row's logits over the row's greatest. -/
def expOf (Z : Arr S4096x16) : Arr S4096x16 :=
  Host.exp (subf Z (spread16 (maximumf
    (broadcastInDim S4096 ![] bcast_S_S4096 (constant (F := Ideal) S_ .f32 0xFF800000#32))
    (Host.reduce FloatOps.maximumf Z (constant (F := Ideal) S_ .f32 0xFF800000#32) reducesTo_S4096x16_S4096_d1 h_S_))))

/-- The softmax of every row. -/
def probsOf (Z : Arr S4096x16) : Arr S4096x16 :=
  Host.divf (expOf Z)
    (spread16 (Host.reduceAdd (expOf Z) (constant (F := Ideal) S_ .f32 0x00000000#32) reducesTo_S4096x16_S4096_d1 h_S_))

theorem gapOf_apply (P : Arr S4096x1) (T : Arr S16) (R : Fin 4096) (t : Fin 16) :
    gapOf P T (ix2 R t) = P (ix2 R 0) - T (ix1 t) := by
  unfold gapOf
  pointwise

/-- The root of 256 is 16. -/
theorem sqrt_256 : Ideal.sqrt (Ideal.ofBits .f32 0x43800000#32) = ((16 : ℝ) : EReal) := by
  rw [two56_f32]
  refine (Ideal.sqrt_coe _).trans ((if_neg (by norm_num)).trans (congrArg Real.toEReal ?_))
  rw [show (256 : ℝ) = 16 ^ 2 by norm_num]
  exact Real.sqrt_sq (by norm_num)

/-- A row's logits. -/
theorem logitsOf_apply (X : Arr S4096x256) (P : Arr S4096x1) (K : Arr S16x256) (T : Arr S16) (R : Fin 4096) (t : Fin 16) :
    logitsOf X P K T (ix2 R t)
      = logits (fun d => X (ix2 R d)) (P (ix2 R 0)) (fun t d => K (ix2 t d)) (fun t => T (ix1 t)) t := by
  unfold logitsOf
  pointwise
  rw [gapOf_apply, sqrt_256, four_half_f32, Ideal.div_coe (by norm_num), Ideal.div_coe (by norm_num), EReal.neg_mul,
    ← sub_eq_add_neg]
  unfold logits
  norm_num

theorem expOf_apply (Z : Arr S4096x16) (R : Fin 4096) (t : Fin 16) :
    expOf Z (ix2 R t) = Ideal.exp (Z (ix2 R t) - greatest fun t => Z (ix2 R t)) := by
  unfold expOf greatest
  pointwise
  rw [negInf, max_eq_right bot_le]

/-- A row's softmax. -/
theorem probsOf_apply (Z : Arr S4096x16) (R : Fin 4096) (t : Fin 16) :
    probsOf Z (ix2 R t) = soft (fun t => Z (ix2 R t)) t := by
  unfold probsOf soft
  pointwise
  simp only [expOf_apply]

/-- The experts' hidden units of every row. -/
def hiddenOf (X : Arr S4096x256) (U : Arr S16x256x512) (B : Arr S16x512) : Arr S4096x16x512 :=
  maximumf
    (addf (Host.dotGeneral dot_S4096x256_S16x256x512_S4096x16x512_1_1_0_02_n_n none X U)
      (broadcastInDim S4096x16x512 ![0, 1, 2] bcast_S1x16x512_S4096x16x512_0_1_2
        (broadcastInDim S1x16x512 ![1, 2] bcast_S16x512_S1x16x512_1_2 B)))
    (broadcastInDim S4096x16x512 ![] bcast_S_S4096x16x512 (constant (F := Ideal) S_ .f32 0x00000000#32))

/-- The experts' outputs of every row. -/
def outputsOf (H : Arr S4096x16x512) (D : Arr S16x512x256) (B : Arr S16x256) : Arr S4096x16x256 :=
  addf
    (transpose S4096x16x256 [2, 0, 1] (Host.dotGeneral dot_S16x512x256_S4096x16x512_S16x256x4096_1_2_2_0_0_1 none D H)
      transposes_S16x256x4096_S4096x16x256_2_0_1)
    (broadcastInDim S4096x16x256 ![0, 1, 2] bcast_S1x16x256_S4096x16x256_0_1_2
      (broadcastInDim S1x16x256 ![1, 2] bcast_S16x256_S1x16x256_1_2 B))

/-- The vectors after the layer. -/
def nextOf (X : Arr S4096x256) (G : Arr S4096x16) (Y : Arr S4096x16x256) : Arr S4096x256 :=
  addf X (Host.dotGeneral dot_S4096x16_S4096x16x256_S4096x256_1_1_n_2_0_0 none G Y)

theorem hiddenOf_apply (X : Arr S4096x256) (U : Arr S16x256x512) (B : Arr S16x512) (hB : ∀ t f, B (ix2 t f) = 0)
    (R : Fin 4096) (t : Fin 16) (f : Fin 512) :
    hiddenOf X U B (ix3 R t f) = Model.hidden (fun d => X (ix2 R d)) (fun t d f => U (ix3 t d f)) t f := by
  unfold hiddenOf Model.hidden
  pointwise
  rw [hB, add_zero]

theorem outputsOf_apply (H : Arr S4096x16x512) (D : Arr S16x512x256) (B : Arr S16x256) (hB : ∀ t e, B (ix2 t e) = 0)
    (R : Fin 4096) (t : Fin 16) (e : Fin 256) :
    outputsOf H D B (ix3 R t e) = ∑ f : Fin 512, D (ix3 t f e) * H (ix3 R t f) := by
  unfold outputsOf
  pointwise
  rw [hB, add_zero]

theorem nextOf_apply (X : Arr S4096x256) (G : Arr S4096x16) (Y : Arr S4096x16x256) (R : Fin 4096) (e : Fin 256) :
    nextOf X G Y (ix2 R e) = X (ix2 R e) + ∑ t : Fin 16, G (ix2 R t) * Y (ix3 R t e) := by
  unfold nextOf
  pointwise

end Cert.Proof.RefLayer
-- ==== Proof.RefGates.lean ====
/-
  THE REFERENCE'S GATES. The reference sorts each row's probabilities, keeps the four greatest, divides them by their sum,
  and writes them into a table of zeros at the positions they came from. Each step is read at a row.
-/
module

public import proofs.«01_k».proof.Proof.RefLayer
public import Idealize.ShloMosaic.Lib.Routing.OpsPair
public import Idealize.ShloMosaic.Lib.Routing.OpsSet

@[expose] public section

noncomputable section

namespace Cert.Proof.RefGates

open Idealize.ShloMosaic Cert.ReferenceIdeal Cert.ReferenceIdeal.Gen
open Cert.Proof.Consts Cert.Proof.Model Cert.Proof.Order Cert.Proof.RefLayer
open Idealize.ShloMosaic.Routing

/-- The four greatest of every row, with their positions. -/
def bestOf (P : Arr S4096x16) : Arr S4096x4 × IVec S4096x4 32 :=
  Host.topK S4096x4 1 (FloatOps.cmpfTotal (F := Ideal) (φ := .f32) .gt) P sliceFits_S4096x16_S4096x4

/-- The comparison of the sort is that of the extended reals. -/
theorem ahead_of_total (p : Fin 16 → EReal) :
    (fun a b => (FloatOps.cmpfTotal (F := Ideal) (φ := .f32) .gt (p a) (p b) == 1#1)) = ahead p := by
  funext a b
  unfold ahead
  rw [Ideal.cmpfTotal_def]
  show (BitVec.ofBool (decide (p b < p a)) == 1#1) = decide (p b < p a)
  cases decide (p b < p a) <;> rfl

/-- The row of an index, moved along it. -/
theorem along_row (R : Fin 4096) (j k : Fin 16) :
    Shape.Idx.along (s := S4096x16) (ix2 R j) (1 : Fin 2) k = (ix2 R k : S4096x16.Idx) := by
  funext a
  match a with
  | ⟨0, _⟩ => rfl
  | ⟨1, _⟩ => rfl

/-- A row of the sort: the row in its order, and the positions in that order. -/
theorem sorted_row (P : Arr S4096x16) (I : IVec S4096x16 32) (R : Fin 4096) (j : Fin 16) :
    (Host.sort2 S4096x16 1
        (fun l r => FloatOps.cmpfTotal (F := Ideal) (φ := .f32) .gt l.1 r.1) P I).1 (ix2 R j)
          = P (ix2 R (order (fun t => P (ix2 R t)) j))
      ∧ (Host.sort2 S4096x16 1
        (fun l r => FloatOps.cmpfTotal (F := Ideal) (φ := .f32) .gt l.1 r.1) P I).2 (ix2 R j)
          = I (ix2 R (order (fun t => P (ix2 R t)) j)) := by
  have key : sortedFrom (fun k k' : Fin 16 => FloatOps.cmpfTotal (F := Ideal) (φ := .f32) .gt
      (P (Shape.Idx.along (s := S4096x16) (ix2 R j) (1 : Fin 2) k))
      (P (Shape.Idx.along (s := S4096x16) (ix2 R j) (1 : Fin 2) k')) == 1#1) j = order (fun t => P (ix2 R t)) j := by
    unfold order
    rw [← ahead_of_total]
    simp only [along_row]
  constructor
  · exact congrArg P ((congrArg (Shape.Idx.along (s := S4096x16) (ix2 R j) (1 : Fin 2)) key).trans (along_row R j _))
  · exact congrArg I ((congrArg (Shape.Idx.along (s := S4096x16) (ix2 R j) (1 : Fin 2)) key).trans (along_row R j _))

/-- The `k`-th greatest of a row. -/
theorem bestOf_value (P : Arr S4096x16) (R : Fin 4096) (k : Fin 4) :
    (bestOf P).1 (ix2 R k) = P (ix2 R (top (fun t => P (ix2 R t)) k)) := by
  refine Eq.trans ?_ (sorted_row P (fun i => if hd : 1 < S4096x16.rank then iotaInDim S4096x16 32 ⟨1, hd⟩ i else 0#32) R
    (place k)).1
  unfold bestOf Host.topK
  dsimp only
  pointwise
  rfl

/-- Its position. -/
theorem bestOf_place (P : Arr S4096x16) (R : Fin 4096) (k : Fin 4) :
    (bestOf P).2 (ix2 R k) = BitVec.ofNat 32 (top (fun t => P (ix2 R t)) k).val := by
  refine Eq.trans ?_ ((sorted_row P (fun i => if hd : 1 < S4096x16.rank then iotaInDim S4096x16 32 ⟨1, hd⟩ i else 0#32) R
    (place k)).2.trans rfl)
  unfold bestOf Host.topK
  dsimp only
  pointwise
  rfl

/-- The four gates of every row. -/
def sharesOf (V : Arr S4096x4) : Arr S4096x4 :=
  Host.divf V (broadcastInDim S4096x4 ![0, 1] bcast_S4096x1_S4096x4_0_1
    (addf (broadcastInDim S4096x1 ![0] bcast_S4096_S4096x1_0
        (Host.reduceAdd V (constant (F := Ideal) S_ .f32 0x00000000#32) reducesTo_S4096x4_S4096_d1 h_S_))
      (broadcastInDim S4096x1 ![] bcast_S_S4096x1 (constant (F := Ideal) S_ .f32 0x3089705F#32))))

theorem sharesOf_apply (P : Arr S4096x16) (R : Fin 4096) (k : Fin 4) :
    sharesOf (bestOf P).1 (ix2 R k) = share (fun t => P (ix2 R t)) k := by
  unfold sharesOf share denom eps
  pointwise
  simp only [bestOf_value]

/-- A row's own number, wrapped as an index is. -/
def rowIndex : IVec S4096x1 32 :=
  select (cmpi .slt (broadcastInDim S4096x1 ![0] bcast_S4096_S4096x1_0 (iotaInDim S4096 32 0))
      (broadcastInDim S4096x1 ![] bcast_S_S4096x1 (constantI S_ 32 0#32)))
    (addi (broadcastInDim S4096x1 ![0] bcast_S4096_S4096x1_0 (iotaInDim S4096 32 0))
      (broadcastInDim S4096x1 ![] bcast_S_S4096x1 (constantI S_ 32 4096#32)))
    (broadcastInDim S4096x1 ![0] bcast_S4096_S4096x1_0 (iotaInDim S4096 32 0))

/-- The positions, wrapped as an index is. -/
def colIndex (I : IVec S4096x4 32) : IVec S4096x4 32 :=
  select (cmpi .slt I (broadcastInDim S4096x4 ![] bcast_S_S4096x4 (constantI S_ 32 0#32)))
    (addi I (broadcastInDim S4096x4 ![] bcast_S_S4096x4 (constantI S_ 32 16#32))) I

/-- The pairs of indices the gates are written at. -/
def pairsOf (I : IVec S4096x4 32) : IVec S4096x4x2 32 :=
  concatenate S4096x4x2 2
    [⟨S4096x4x1, broadcastInDim S4096x4x1 ![0, 1] bcast_S4096x4_S4096x4x1_0_1
        (broadcastInDim S4096x4 ![0, 1] bcast_S4096x1_S4096x4_0_1 rowIndex)⟩,
      ⟨S4096x4x1, broadcastInDim S4096x4x1 ![0, 1] bcast_S4096x4_S4096x4x1_0_1 (colIndex I)⟩]
    concatenates_S4096x4x1_S4096x4x1_S4096x4x2_d2

theorem rowIndex_apply (R : Fin 4096) : rowIndex (ix2 R 0) = BitVec.ofNat 32 R.val := by
  unfold rowIndex
  pointwise
  exact wrap_of_lt _ _ (by rw [BitVec.toNat_ofNat]; omega)

theorem colIndex_apply (I : IVec S4096x4 32) (R : Fin 4096) (k : Fin 4) (h : (I (ix2 R k)).toNat < 2 ^ 31) :
    colIndex I (ix2 R k) = I (ix2 R k) := by
  unfold colIndex
  pointwise
  exact wrap_of_lt _ _ h

theorem pairsOf_row (I : IVec S4096x4 32) (R : Fin 4096) (k : Fin 4) : pairsOf I (ix3 R k 0) = BitVec.ofNat 32 R.val := by
  unfold pairsOf
  pointwise
  exact rowIndex_apply R

theorem pairsOf_col (I : IVec S4096x4 32) (R : Fin 4096) (k : Fin 4) : pairsOf I (ix3 R k 1) = colIndex I (ix2 R k) := by
  unfold pairsOf
  pointwise

/-- The table of gates. -/
def gatesOf (P : Arr S4096x16) : Arr S4096x16 :=
  Host.scatter scatter_S4096x16_S4096x4x2_S4096x4_n_01_01_2 (fun _ b => b) (fill16 0x00000000#32)
    (pairsOf (bestOf P).2) (sharesOf (bestOf P).1)

/-- A small number read signed is itself. -/
theorem toInt_small (n : ℕ) (h : n < 2 ^ 31) : (BitVec.ofNat 32 n).toInt = n := by
  rw [BitVec.toInt_eq_toNat_of_lt (by rw [BitVec.toNat_ofNat]; omega), BitVec.toNat_ofNat]
  omega

/-- A gate is written in its own row, at the position it came from. -/
theorem gate_lands (P : Arr S4096x16) (R Q : Fin 4096) (k : Fin 4) (t : Fin 16) :
    scatter_S4096x16_S4096x4x2_S4096x4_n_01_01_2.resultIdx? (ix2 Q k) (pairsOf (bestOf P).2) = some (ix2 R t)
      ↔ Q = R ∧ top (fun u => P (ix2 Q u)) k = t := by
  refine (scatter_lands2 (R := 4096) (C := 16) (A := 4096) (B := 4) scatter_S4096x16_S4096x4x2_S4096x4_n_01_01_2 rfl rfl rfl
    (pairsOf (bestOf P).2) Q k R t).trans ?_
  have hk : (bestOf P).2 (ix2 Q k) = BitVec.ofNat 32 (top (fun u => P (ix2 Q u)) k).val := bestOf_place P Q k
  rw [← ix3_eq_valueIdx, ← ix3_eq_valueIdx, pairsOf_row, pairsOf_col, colIndex_apply _ _ _ (by rw [hk, BitVec.toNat_ofNat]; omega), hk,
    toInt_small _ (by omega), toInt_small _ (by omega)]
  constructor
  · rintro ⟨h, h'⟩
    exact ⟨Fin.ext (by exact_mod_cast h), Fin.ext (by exact_mod_cast h')⟩
  · rintro ⟨rfl, rfl⟩
    exact ⟨rfl, rfl⟩

/-- A row of the table of gates. -/
theorem gatesOf_apply (P : Arr S4096x16) (R : Fin 4096) (t : Fin 16) :
    gatesOf P (ix2 R t) = gate (fun t => P (ix2 R t)) t := by
  unfold gatesOf
  by_cases h : ∃ k : Fin 4, t = top (fun t => P (ix2 R t)) k
  · obtain ⟨k, rfl⟩ := h
    rw [gate_top]
    refine scatter_set_hit _ _ _ _ _ _ (fun j hj => ?_) (ix2 R k) ((gate_lands P R R k _).mpr ⟨rfl, rfl⟩)
    obtain ⟨Q, q, rfl⟩ : ∃ (Q : Fin 4096) (q : Fin 4), j = ix2 Q q := ⟨j 0, j 1, eq_ix2 j⟩
    obtain ⟨rfl, ht⟩ := (gate_lands P R Q q _).mp hj
    rw [sharesOf_apply, top_injective _ ht]
  · rw [gate_off _ _ (fun k hk => h ⟨k, hk⟩)]
    refine (scatter_set_miss _ _ _ _ _ fun j hj => ?_).trans ?_
    · obtain ⟨Q, q, rfl⟩ : ∃ (Q : Fin 4096) (q : Fin 4), j = ix2 Q q := ⟨j 0, j 1, eq_ix2 j⟩
      obtain ⟨rfl, ht⟩ := (gate_lands P R Q q _).mp hj
      exact h ⟨_, ht.symm⟩
    · pointwise

end Cert.Proof.RefGates
-- ==== Proof.RefLoad.lean ====
/-
  THE REFERENCE'S LOAD. A layer's load is sixteen times the sum over the experts of the mean probability times the mean
  count of rows that use the expert; over real probabilities it is the product of the two sums, scaled by a power of two.
-/
module

public import proofs.«01_k».proof.Proof.RefGates

@[expose] public section

noncomputable section

namespace Cert.Proof.RefLoad

open Idealize.ShloMosaic Cert.ReferenceIdeal Cert.ReferenceIdeal.Gen
open Cert.Proof.Consts Cert.Proof.Model Cert.Proof.Finite Cert.Proof.RefLayer

/-- The mean of every column. -/
def meanOf (P : Arr S4096x16) : Arr S16 :=
  Host.divf (Host.reduceAdd P (constant (F := Ideal) S_ .f32 0x00000000#32) reducesTo_S4096x16_S16_d0 h_S_)
    (broadcastInDim S16 ![] bcast_S_S16 (constant (F := Ideal) S_ .f32 0x45800000#32))

/-- Which gates are positive. -/
def usedOf (G : Arr S4096x16) : Arr S4096x16 := uitofp (F := Ideal) .f32 (cmpf .ogt G (fill16 0x00000000#32))

/-- A layer's load. -/
def loadOf (P G : Arr S4096x16) : Arr S_ :=
  mulf (constant (F := Ideal) S_ .f32 0x41800000#32)
    (Host.reduceAdd (mulf (meanOf P) (meanOf (usedOf G))) (constant (F := Ideal) S_ .f32 0x00000000#32) reducesTo_S16_S_d0 h_S_)

theorem meanOf_apply (P : Arr S4096x16) (t : Fin 16) :
    meanOf P (ix1 t) = (∑ R : Fin 4096, P (ix2 R t)) * ((1 / 4096 : ℝ) : EReal) := by
  unfold meanOf
  pointwise
  rw [rows_f32, Ideal.div_coe (by norm_num)]

theorem usedOf_apply (G : Arr S4096x16) (R : Fin 4096) (t : Fin 16) :
    usedOf G (ix2 R t) = if 0 < G (ix2 R t) then 1 else 0 := by
  unfold usedOf
  pointwise
  show (((BitVec.ofBool (decide (0 < G (ix2 R t)))).toNat : ℝ) : EReal) = _
  by_cases h : 0 < G (ix2 R t)
  · rw [decide_eq_true h, if_pos h]
    simp
  · rw [decide_eq_false h, if_neg h]
    simp

theorem loadOf_apply (P G : Arr S4096x16) (i : S_.Idx) :
    loadOf P G i = ((16 : ℝ) : EReal) * ∑ t : Fin 16, meanOf P (ix1 t) * meanOf (usedOf G) (ix1 t) := by
  unfold loadOf
  pointwise
  rw [sixteen_f32]

/-- Two layers' loads from the sums of their columns. -/
theorem load_sum (p u q v : Fin 16 → EReal) (hp : ∀ t, IsReal (p t)) (hu : ∀ t, IsReal (u t)) (hq : ∀ t, IsReal (q t))
    (hv : ∀ t, IsReal (v t)) :
    (((16 : ℝ) : EReal) * ∑ t : Fin 16, (p t * ((1 / 4096 : ℝ) : EReal)) * (u t * ((1 / 4096 : ℝ) : EReal)))
        + (((16 : ℝ) : EReal) * ∑ t : Fin 16, (q t * ((1 / 4096 : ℝ) : EReal)) * (v t * ((1 / 4096 : ℝ) : EReal)))
      = (∑ t : Fin 16, (p t * u t + q t * v t)) * ((1 / 1048576 : ℝ) : EReal) := by
  choose p' hp using hp
  choose u' hu using hu
  choose q' hq using hq
  choose v' hv using hv
  simp only [hp, hu, hq, hv, ← EReal.coe_mul, ← EReal.coe_add, sum_coe]
  refine congrArg Real.toEReal ?_
  rw [Finset.mul_sum, Finset.mul_sum, Finset.sum_mul, ← Finset.sum_add_distrib]
  exact Finset.sum_congr rfl fun t _ => by ring

end Cert.Proof.RefLoad
-- ==== Proof.RefHead.lean ====
/-
  THE REFERENCE'S HEAD. The last vectors go through two small products, with a rectifier between them and the logistic
  function at the end; read at a row.
-/
module

public import proofs.«01_k».proof.Proof.RefLayer

@[expose] public section

noncomputable section

namespace Cert.Proof.RefHead

open Idealize.ShloMosaic Cert.ReferenceIdeal Cert.ReferenceIdeal.Gen
open Cert.Proof.Consts Cert.Proof.Model Cert.Proof.Finite Cert.Proof.RefLayer

/-- The head's hidden units. -/
def unitsOf (X : Arr S4096x256) (U : Arr S256x64) (B : Arr S64) : Arr S4096x64 :=
  maximumf
    (addf (Host.dotGeneral dot_S4096x256_S256x64_S4096x64_1_0_0_1_n_n none X U)
      (broadcastInDim S4096x64 ![0, 1] bcast_S1x64_S4096x64_0_1 (broadcastInDim S1x64 ![1] bcast_S64_S1x64_1 B)))
    (broadcastInDim S4096x64 ![] bcast_S_S4096x64 (constant (F := Ideal) S_ .f32 0x00000000#32))

/-- The head's scores. -/
def scoresOf (H : Arr S4096x64) (U : Arr S64x8) (B : Arr S8) : Arr S4096x8 :=
  addf (Host.dotGeneral dot_S4096x64_S64x8_S4096x8_1_0_0_1_n_n none H U)
    (broadcastInDim S4096x8 ![0, 1] bcast_S1x8_S4096x8_0_1 (broadcastInDim S1x8 ![1] bcast_S8_S1x8_1 B))

/-- One over one plus the exponential of the negated score. -/
def squashOf (Z : Arr S4096x8) : Arr S4096x8 :=
  Host.divf (broadcastInDim S4096x8 ![] bcast_S_S4096x8 (constant (F := Ideal) S_ .f32 0x3F800000#32))
    (addf (broadcastInDim S4096x8 ![] bcast_S_S4096x8 (constant (F := Ideal) S_ .f32 0x3F800000#32)) (Host.exp (Host.negf Z)))

theorem unitsOf_apply (X : Arr S4096x256) (U : Arr S256x64) (B : Arr S64) (hB : ∀ j, B (ix1 j) = 0) (R : Fin 4096) (j : Fin 64) :
    unitsOf X U B (ix2 R j) = max (∑ d : Fin 256, X (ix2 R d) * U (ix2 d j)) 0 := by
  unfold unitsOf
  pointwise
  rw [hB, add_zero]

theorem scoresOf_apply (H : Arr S4096x64) (U : Arr S64x8) (B : Arr S8) (hB : ∀ k, B (ix1 k) = 0) (R : Fin 4096) (k : Fin 8) :
    scoresOf H U B (ix2 R k) = ∑ j : Fin 64, H (ix2 R j) * U (ix2 j k) := by
  unfold scoresOf
  pointwise
  rw [hB, add_zero]

theorem squashOf_apply (Z : Arr S4096x8) (R : Fin 4096) (k : Fin 8) : squashOf Z (ix2 R k) = Ideal.logistic (Z (ix2 R k)) := by
  unfold squashOf
  pointwise
  rfl

/-- A row of the result. -/
theorem head_apply (X : Arr S4096x256) (U : Arr S256x64) (B : Arr S64) (U' : Arr S64x8) (B' : Arr S8) (hB : ∀ j, B (ix1 j) = 0)
    (hB' : ∀ k, B' (ix1 k) = 0) (R : Fin 4096) (k : Fin 8) :
    squashOf (scoresOf (unitsOf X U B) U' B') (ix2 R k)
      = head (fun d => X (ix2 R d)) (fun d j => U (ix2 d j)) (fun j k => U' (ix2 j k)) k := by
  rw [squashOf_apply, scoresOf_apply _ _ _ hB']
  simp only [unitsOf_apply _ _ _ hB]
  rfl

end Cert.Proof.RefHead
-- ==== Proof.RefStart.lean ====
/-
  THE REFERENCE'S FIRST VECTOR. The reference takes each row's embedding by its operation's index, joins the bits of both
  operands and the carry to it, and multiplies by the projection: 49 products a lane, cut where the pieces meet.
-/
module

public import proofs.«01_k».proof.Proof.RefLayer
public import Idealize.ShloMosaic.Lib.Routing.Ops
public import Idealize.ShloMosaic.Lib.Routing.OpsPair
public import Idealize.ShloMosaic.Lib.ReduceAll

@[expose] public section

noncomputable section

namespace Cert.Proof.RefStart

open Idealize.ShloMosaic Cert.ReferenceIdeal Cert.ReferenceIdeal.Gen
open Cert.Proof.Consts Cert.Proof.Model Cert.Proof.Finite Cert.Proof.RefLayer Cert.Proof.Features

/-- A word per row. -/
abbrev Words (s : Shape) := IVec s 32

/-- Bit `n` of every row's word, as a column. -/
def bitCol (a : Words S4096) (n : BitVec 32) : Words S4096x1 :=
  broadcastInDim S4096x1 ![0] bcast_S4096_S4096x1_0
    (andi (Host.shrsi a (broadcastInDim S4096 ![] bcast_S_S4096 (constantI S_ 32 n)))
      (broadcastInDim S4096 ![] bcast_S_S4096 (constantI S_ 32 1#32)))

/-- The eight bits of every row's word. -/
def bitsOf (a : Words S4096) : Arr S4096x8 :=
  sitofp (F := Ideal) .f32 (concatenate S4096x8 1
    [⟨S4096x1, bitCol a 0#32⟩, ⟨S4096x1, bitCol a 1#32⟩, ⟨S4096x1, bitCol a 2#32⟩, ⟨S4096x1, bitCol a 3#32⟩,
      ⟨S4096x1, bitCol a 4#32⟩, ⟨S4096x1, bitCol a 5#32⟩, ⟨S4096x1, bitCol a 6#32⟩, ⟨S4096x1, bitCol a 7#32⟩]
    concatenates_S4096x1_S4096x1_S4096x1_S4096x1_S4096x1_S4096x1_S4096x1_S4096x1_S4096x8_d1)

theorem bitCol_apply (a : Words S4096) (n : ℕ) (hn : n < 8) (R : Fin 4096) :
    bitCol a (BitVec.ofNat 32 n) (ix2 R 0) = IntOp.andi ((a (ix1 R)).sshiftRight n) 1#32 := by
  unfold bitCol
  pointwise
  rw [shift_small _ _ _ hn]

theorem bitsOf_apply (a : Words S4096) (R : Fin 4096) (i : Fin 8) : bitsOf a (ix2 R i) = bit (a (ix1 R)) i := by
  have key : ∀ n : ℕ, n < 8 → (FloatOps.sitofp .f32 (bitCol a (BitVec.ofNat 32 n) (ix2 R 0)) : Ideal .f32)
      = num (IntOp.andi ((a (ix1 R)).sshiftRight n) 1#32) := fun n hn => by
    rw [bitCol_apply _ _ hn, sitofp_num]
  unfold bitsOf bit
  fin_cases i <;> pointwise
  · exact key 0 (by decide)
  · exact key 1 (by decide)
  · exact key 2 (by decide)
  · exact key 3 (by decide)
  · exact key 4 (by decide)
  · exact key 5 (by decide)
  · exact key 6 (by decide)
  · exact key 7 (by decide)

/-- The index of the embedding, wrapped as an index is. -/
def takeIndex (o : Words S4096) : Words S4096x1 :=
  broadcastInDim S4096x1 ![0] bcast_S4096_S4096x1_0
    (select (cmpi .slt o (broadcastInDim S4096 ![] bcast_S_S4096 (constantI S_ 32 0#32)))
      (addi o (broadcastInDim S4096 ![] bcast_S_S4096 (constantI S_ 32 8#32))) o)

/-- Whether the index is in range. -/
def inRange (o : Words S4096) : IVec S4096x1 1 :=
  andi (cmpi .sge (takeIndex o) (broadcastInDim S4096x1 ![] bcast_S_S4096x1 (constantI S_ 32 0#32)))
    (cmpi .sle (takeIndex o) (broadcastInDim S4096x1 ![0, 1] bcast_S1x1_S4096x1_0_1
      (broadcastInDim S1x1 ![1] bcast_S1_S1x1_1 (constantI S1 32 7#32))))

/-- The embeddings taken by index. -/
def takenOf (o : Words S4096) (E : Arr S8x32) : Arr S4096x32 :=
  select (broadcastInDim S4096x32 ![0] bcast_S4096_S4096x32_0
      (Host.reduce IntOp.andi (inRange o) (constantI S_ 1 1#1) reducesTo_S4096x1_S4096_d1 h_S_))
    (Host.gather gather_S8x32_S4096x1_S4096x32_1_0_n_n_0_1_132 E (takeIndex o))
    (broadcastInDim S4096x32 ![] bcast_S_S4096x32 (constant (F := Ideal) S_ .f32 0x7FC00000#32))

theorem takeIndex_apply (o : Words S4096) (R : Fin 4096) (h : (o (ix1 R)).toNat < 8) : takeIndex o (ix2 R 0) = o (ix1 R) := by
  unfold takeIndex
  pointwise
  exact Routing.wrap_of_lt _ _ (by omega)

/-- A word below eight, and the two range tests on it. -/
theorem small_word (w : BitVec 32) (h : w.toNat < 8) :
    w = BitVec.ofNat 32 (pick w).val ∧ IntOp.andi (IntOp.cmpi .sge w 0#32) (IntOp.cmpi .sle w 7#32) = 1#1 := by
  have e : w = BitVec.ofNat 32 (pick w).val := BitVec.eq_of_toNat_eq (by
    rw [BitVec.toNat_ofNat]
    show w.toNat = w.toNat % 8 % _
    omega)
  refine ⟨e, ?_⟩
  rw [e]
  generalize pick w = p
  revert p
  decide

theorem inRange_one (o : Words S4096) (h : ∀ R, (o (ix1 R)).toNat < 8) (i : S4096x1.Idx) : inRange o i = 1#1 := by
  obtain ⟨R, z, rfl⟩ : ∃ (R : Fin 4096) (z : Fin 1), i = ix2 R z := ⟨i 0, i 1, eq_ix2 i⟩
  obtain rfl : z = 0 := Subsingleton.elim _ _
  unfold inRange
  pointwise
  rw [takeIndex_apply _ _ (h R)]
  exact (small_word _ (h R)).2

theorem takenOf_apply (o : Words S4096) (E : Arr S8x32) (h : ∀ R, (o (ix1 R)).toNat < 8) (R : Fin 4096) (j : Fin 32) :
    takenOf o E (ix2 R j) = E (ix2 (pick (o (ix1 R))) j) := by
  unfold takenOf
  have g : Host.gather gather_S8x32_S4096x1_S4096x32_1_0_n_n_0_1_132 E (takeIndex o) (ix2 R j) = E (ix2 (pick (o (ix1 R))) j) :=
    Routing.gather_row (nb := 8) (B := 32) (n := 4096) gather_S8x32_S4096x1_S4096x32_1_0_n_n_0_1_132 rfl rfl rfl rfl rfl E
      (takeIndex o) R j (pick (o (ix1 R))) ((takeIndex_apply o R (h R)).trans (small_word _ (h R)).1) (by decide)
  have r : Host.reduce IntOp.andi (inRange o) (constantI S_ 1 1#1) reducesTo_S4096x1_S4096_d1 h_S_ (ix1 R) = 1#1 :=
    Host.reduce_andi_one _ _ _ _ _ rfl (inRange_one o h)
  generalize Host.reduce IntOp.andi (inRange o) (constantI S_ 1 1#1) reducesTo_S4096x1_S4096_d1 h_S_ = c at r
  generalize Host.gather gather_S8x32_S4096x1_S4096x32_1_0_n_n_0_1_132 E (takeIndex o) = G at g
  pointwise
  rw [r, g]
  rfl

/-- The 49 features of every row. -/
def joinedOf (A : Arr S4096x32) (B C : Arr S4096x8) (D : Arr S4096x1) : Arr S4096x49 :=
  concatenate S4096x49 1 [⟨S4096x32, A⟩, ⟨S4096x8, B⟩, ⟨S4096x8, C⟩, ⟨S4096x1, D⟩]
    concatenates_S4096x32_S4096x8_S4096x8_S4096x1_S4096x49_d1

/-- The first vectors. -/
def startOf (A : Arr S4096x49) (W : Arr S49x256) (b : Arr S256) : Arr S4096x256 :=
  addf (Host.dotGeneral dot_S4096x49_S49x256_S4096x256_1_0_0_1_n_n none A W)
    (broadcastInDim S4096x256 ![0, 1] bcast_S1x256_S4096x256_0_1 (broadcastInDim S1x256 ![1] bcast_S256_S1x256_1 b))

theorem startOf_apply (A : Arr S4096x49) (W : Arr S49x256) (b : Arr S256) (hb : ∀ d, b (ix1 d) = 0) (R : Fin 4096) (d : Fin 256) :
    startOf A W b (ix2 R d) = ∑ i : Fin 49, A (ix2 R i) * W (ix2 i d) := by
  unfold startOf
  pointwise
  rw [hb, add_zero]

theorem joined_embedding (A : Arr S4096x32) (B C : Arr S4096x8) (D : Arr S4096x1) (R : Fin 4096) (j : Fin 32) :
    joinedOf A B C D (ix2 R ⟨j.val, by omega⟩) = A (ix2 R j) := by
  unfold joinedOf
  pointwise

theorem joined_first (A : Arr S4096x32) (B C : Arr S4096x8) (D : Arr S4096x1) (R : Fin 4096) (i : Fin 8) :
    joinedOf A B C D (ix2 R ⟨32 + i.val, by omega⟩) = B (ix2 R i) := by
  unfold joinedOf
  pointwise

theorem joined_second (A : Arr S4096x32) (B C : Arr S4096x8) (D : Arr S4096x1) (R : Fin 4096) (i : Fin 8) :
    joinedOf A B C D (ix2 R ⟨40 + i.val, by omega⟩) = C (ix2 R i) := by
  unfold joinedOf
  pointwise
  rw [dif_neg (show ¬ 40 + i.val < 32 by omega), dif_neg (show ¬ 40 + i.val - 32 < 8 by omega),
    dif_pos (show 40 + i.val - 32 - 8 < 8 by omega)]
  exact congrArg (fun q => C (ix2 R q)) (Fin.ext (by show 40 + i.val - 32 - 8 = i.val; omega))

theorem joined_carry (A : Arr S4096x32) (B C : Arr S4096x8) (D : Arr S4096x1) (R : Fin 4096) :
    joinedOf A B C D (ix2 R ⟨48, by omega⟩) = D (ix2 R 0) := by
  unfold joinedOf
  pointwise

/-- A sum of 49 products, cut where the pieces meet. -/
theorem sum_pieces (f : Fin 49 → EReal) :
    ∑ i : Fin 49, f i = (∑ j : Fin 32, f ⟨j.val, by omega⟩) + ((∑ i : Fin 8, f ⟨32 + i.val, by omega⟩)
      + ((∑ i : Fin 8, f ⟨40 + i.val, by omega⟩) + f ⟨48, by omega⟩)) := by
  refine (Fin.sum_univ_add (a := 32) (b := 17) f).trans ?_
  refine congrArg₂ (· + ·) rfl ?_
  refine (Fin.sum_univ_add (a := 8) (b := 9) _).trans ?_
  refine congrArg₂ (· + ·) rfl ?_
  refine (Fin.sum_univ_add (a := 8) (b := 1) _).trans ?_
  refine congrArg₂ (· + ·) ?_ ?_
  · refine Finset.sum_congr rfl fun i _ => congrArg f (Fin.ext ?_)
    show 32 + (8 + i.val) = 40 + i.val
    omega
  · rw [Fin.sum_univ_one]
    rfl

/-- A word of every row as a number, in a column. -/
def numberOf (c : Words S4096) : Arr S4096x1 :=
  sitofp (F := Ideal) .f32 (broadcastInDim S4096x1 ![0] bcast_S4096_S4096x1_0 c)

theorem numberOf_apply (c : Words S4096) (R : Fin 4096) : numberOf c (ix2 R 0) = num (c (ix1 R)) := by
  unfold numberOf
  pointwise
  rw [sitofp_num]

/-- A row's position, as a column. -/
def positionOf (o : Words S4096) : Arr S4096x1 :=
  broadcastInDim S4096x1 ![0] bcast_S4096_S4096x1_0 (sitofp (F := Ideal) .f32 o)

theorem positionOf_apply (o : Words S4096) (R : Fin 4096) : positionOf o (ix2 R 0) = num (o (ix1 R)) := by
  unfold positionOf
  pointwise
  rw [sitofp_num]

/-- A row's first vector. -/
theorem first_apply (o a b c : Words S4096) (E : Arr S8x32) (W : Arr S49x256) (p : Arr S256) (h : ∀ R, (o (ix1 R)).toNat < 8)
    (hp : ∀ d, p (ix1 d) = 0) (R : Fin 4096) (d : Fin 256) :
    startOf (joinedOf (takenOf o E) (bitsOf a) (bitsOf b) (numberOf c)) W p (ix2 R d)
      = start (o (ix1 R)) (a (ix1 R)) (b (ix1 R)) (c (ix1 R)) (fun i j => E (ix2 i j)) (fun i d => W (ix2 i d)) d := by
  rw [startOf_apply _ _ _ hp, sum_pieces]
  unfold start
  simp only [joined_embedding, joined_first, joined_second, joined_carry, takenOf_apply o E h, bitsOf_apply, numberOf_apply]

end Cert.Proof.RefStart
-- ==== Proof.RefRows.lean ====
/-
  THE REFERENCE'S RESULTS. The reference's values are the operations of the layer modules on its arguments, layer by layer;
  read row by row they are the rows of the specification.
-/
module

public import proofs.«01_k».proof.Proof.RefLoad
public import proofs.«01_k».proof.Proof.RefHead
public import proofs.«01_k».proof.Proof.RefStart

@[expose] public section

noncomputable section

namespace Cert.Proof.RefRows

open Idealize.ShloMosaic Cert.ReferenceIdeal Cert.ReferenceIdeal.Gen Cert.ReferenceIdeal.Read
open Cert.Proof.Consts Cert.Proof.Model Cert.Proof.Finite Cert.Proof.RefLayer Cert.Proof.RefGates Cert.Proof.RefLoad
open Cert.Proof.RefHead Cert.Proof.RefStart Cert.Proof.Spec

/-- The reference's arguments. -/
@[ext] structure Inputs where
  o : Words S4096
  a : Words S4096
  b : Words S4096
  c : Words S4096
  E : Arr S8x32
  W : Arr S49x256
  bp : Arr S256
  key : Arr S2x16x256
  spot : Arr S2x16
  up : Arr S2x16x256x512
  b1 : Arr S2x16x512
  down : Arr S2x16x512x256
  b2 : Arr S2x16x256
  wh1 : Arr S256x64
  bh1 : Arr S64
  wh2 : Arr S64x8
  bh2 : Arr S8

/-- The biases are zero. -/
structure Inputs.Unbiased (I : Inputs) : Prop where
  bp : ∀ i, I.bp i = 0
  b1 : ∀ i, I.b1 i = 0
  b2 : ∀ i, I.b2 i = 0
  bh1 : ∀ i, I.bh1 i = 0
  bh2 : ∀ i, I.bh2 i = 0

/-- The arguments the specification reads. -/
def Inputs.args (I : Inputs) : Args where
  op R := I.o (ix1 R)
  a R := I.a (ix1 R)
  b R := I.b (ix1 R)
  c R := I.c (ix1 R)
  E i j := I.E (ix2 i j)
  W i d := I.W (ix2 i d)
  key l t d := I.key (ix3 l t d)
  spot l t := I.spot (ix2 l t)
  up l t d f := I.up (ix4 l t d f)
  down l t f e := I.down (ix4 l t f e)
  wh1 d j := I.wh1 (ix2 d j)
  wh2 j k := I.wh2 (ix2 j k)

variable (I : Inputs)

/-- The first vectors. -/
def Inputs.X0 : Arr S4096x256 := val_main_v91 (F := Ideal) I.o I.a I.b I.c I.E I.W I.bp
/-- The first layer's logits. -/
def Inputs.Z0 : Arr S4096x16 := val_main_v119 (F := Ideal) I.o I.a I.b I.c I.E I.W I.bp I.key I.spot
/-- The first layer's probabilities. -/
def Inputs.P0 : Arr S4096x16 := val_main_v130 (F := Ideal) I.o I.a I.b I.c I.E I.W I.bp I.key I.spot
/-- The first layer's gates. -/
def Inputs.G0 : Arr S4096x16 := val_main_v154 (F := Ideal) I.o I.a I.b I.c I.E I.W I.bp I.key I.spot
/-- The second vectors. -/
def Inputs.X1 : Arr S4096x256 :=
  val_main_v166 (F := Ideal) I.o I.a I.b I.c I.E I.W I.bp I.key I.spot I.up I.b1 I.down I.b2
/-- The second layer's logits. -/
def Inputs.Z1 : Arr S4096x16 :=
  val_main_v205 (F := Ideal) I.o I.a I.b I.c I.E I.W I.bp I.key I.spot I.up I.b1 I.down I.b2
/-- The second layer's probabilities. -/
def Inputs.P1 : Arr S4096x16 :=
  val_main_v216 (F := Ideal) I.o I.a I.b I.c I.E I.W I.bp I.key I.spot I.up I.b1 I.down I.b2
/-- The second layer's gates. -/
def Inputs.G1 : Arr S4096x16 :=
  val_main_v240 (F := Ideal) I.o I.a I.b I.c I.E I.W I.bp I.key I.spot I.up I.b1 I.down I.b2
/-- The last vectors. -/
def Inputs.X2 : Arr S4096x256 :=
  val_main_v252 (F := Ideal) I.o I.a I.b I.c I.E I.W I.bp I.key I.spot I.up I.b1 I.down I.b2
/-- The load. -/
def Inputs.L : Arr S_ :=
  val_main_v265 (F := Ideal) I.o I.a I.b I.c I.E I.W I.bp I.key I.spot I.up I.b1 I.down I.b2
/-- The first result. -/
def Inputs.out0 : Arr S4096x8 :=
  val_main_v280 (F := Ideal) I.o I.a I.b I.c I.E I.W I.bp I.key I.spot I.up I.b1 I.down I.b2 I.wh1 I.bh1 I.wh2 I.bh2
/-- The second result. -/
def Inputs.out1 : Words S4096x4 :=
  val_main_indices_56 (F := Ideal) I.o I.a I.b I.c I.E I.W I.bp I.key I.spot I.up I.b1 I.down I.b2
/-- The third result. -/
def Inputs.out2 : Arr S1x1 :=
  val_main_v281 (F := Ideal) I.o I.a I.b I.c I.E I.W I.bp I.key I.spot I.up I.b1 I.down I.b2

theorem X0_eq : I.X0 = startOf (joinedOf (takenOf I.o I.E) (bitsOf I.a) (bitsOf I.b) (numberOf I.c)) I.W I.bp := rfl
theorem Z0_eq : I.Z0 = logitsOf I.X0 (positionOf I.o) (val_main_v95 (F := Ideal) I.key) (val_main_v97 (F := Ideal) I.spot) := rfl
theorem P0_eq : I.P0 = probsOf I.Z0 := rfl
theorem G0_eq : I.G0 = gatesOf I.P0 := rfl
theorem X1_eq : I.X1 = nextOf I.X0 I.G0 (outputsOf (hiddenOf I.X0 (val_main_v99 (F := Ideal) I.up) (val_main_v101 (F := Ideal) I.b1))
    (val_main_v103 (F := Ideal) I.down) (val_main_v105 (F := Ideal) I.b2)) := rfl
theorem Z1_eq : I.Z1 = logitsOf I.X1 (positionOf I.o) (val_main_v181 (F := Ideal) I.key) (val_main_v183 (F := Ideal) I.spot) := rfl
theorem P1_eq : I.P1 = probsOf I.Z1 := rfl
theorem G1_eq : I.G1 = gatesOf I.P1 := rfl
theorem X2_eq : I.X2 = nextOf I.X1 I.G1 (outputsOf (hiddenOf I.X1 (val_main_v185 (F := Ideal) I.up) (val_main_v187 (F := Ideal) I.b1))
    (val_main_v189 (F := Ideal) I.down) (val_main_v191 (F := Ideal) I.b2)) := rfl
theorem L_eq : I.L = addf (addf (constant (F := Ideal) S_ .f32 0x00000000#32) (loadOf I.P0 I.G0)) (loadOf I.P1 I.G1) := rfl
theorem out0_eq : I.out0 = squashOf (scoresOf (unitsOf I.X2 I.wh1 I.bh1) I.wh2 I.bh2) := rfl
theorem out1_eq : I.out1 = (bestOf I.P1).2 := rfl
theorem out2_eq : I.out2 = shapeCast _ I.L shapeCasts_S_S1x1 := rfl

/-! The slices of the arguments, one per layer. -/

theorem key0_apply (K : Arr S2x16x256) (t : Fin 16) (d : Fin 256) : val_main_v95 (F := Ideal) K (ix2 t d) = K (ix3 0 t d) := by
  unfold val_main_v95 val_main_v94
  pointwise
theorem key1_apply (K : Arr S2x16x256) (t : Fin 16) (d : Fin 256) : val_main_v181 (F := Ideal) K (ix2 t d) = K (ix3 1 t d) := by
  unfold val_main_v181 val_main_v180
  pointwise
theorem spot0_apply (T : Arr S2x16) (t : Fin 16) : val_main_v97 (F := Ideal) T (ix1 t) = T (ix2 0 t) := by
  unfold val_main_v97 val_main_v96
  pointwise
theorem spot1_apply (T : Arr S2x16) (t : Fin 16) : val_main_v183 (F := Ideal) T (ix1 t) = T (ix2 1 t) := by
  unfold val_main_v183 val_main_v182
  pointwise
theorem up0_apply (U : Arr S2x16x256x512) (t : Fin 16) (d : Fin 256) (f : Fin 512) :
    val_main_v99 (F := Ideal) U (ix3 t d f) = U (ix4 0 t d f) := by
  unfold val_main_v99 val_main_v98
  pointwise
theorem up1_apply (U : Arr S2x16x256x512) (t : Fin 16) (d : Fin 256) (f : Fin 512) :
    val_main_v185 (F := Ideal) U (ix3 t d f) = U (ix4 1 t d f) := by
  unfold val_main_v185 val_main_v184
  pointwise
theorem down0_apply (U : Arr S2x16x512x256) (t : Fin 16) (f : Fin 512) (e : Fin 256) :
    val_main_v103 (F := Ideal) U (ix3 t f e) = U (ix4 0 t f e) := by
  unfold val_main_v103 val_main_v102
  pointwise
theorem down1_apply (U : Arr S2x16x512x256) (t : Fin 16) (f : Fin 512) (e : Fin 256) :
    val_main_v189 (F := Ideal) U (ix3 t f e) = U (ix4 1 t f e) := by
  unfold val_main_v189 val_main_v188
  pointwise
theorem b1_first (B : Arr S2x16x512) (h : ∀ i, B i = 0) (t : Fin 16) (f : Fin 512) :
    val_main_v101 (F := Ideal) B (ix2 t f) = 0 := by
  unfold val_main_v101 val_main_v100
  pointwise
  exact h _
theorem b1_second (B : Arr S2x16x512) (h : ∀ i, B i = 0) (t : Fin 16) (f : Fin 512) :
    val_main_v187 (F := Ideal) B (ix2 t f) = 0 := by
  unfold val_main_v187 val_main_v186
  pointwise
  exact h _
theorem b2_first (B : Arr S2x16x256) (h : ∀ i, B i = 0) (t : Fin 16) (e : Fin 256) :
    val_main_v105 (F := Ideal) B (ix2 t e) = 0 := by
  unfold val_main_v105 val_main_v104
  pointwise
  exact h _
theorem b2_second (B : Arr S2x16x256) (h : ∀ i, B i = 0) (t : Fin 16) (e : Fin 256) :
    val_main_v191 (F := Ideal) B (ix2 t e) = 0 := by
  unfold val_main_v191 val_main_v190
  pointwise
  exact h _

/-! The rows. -/

variable {I} (hu : I.Unbiased) (hg : I.args.Good)
include hu hg

theorem X0_row (R : Fin 4096) (d : Fin 256) : I.X0 (ix2 R d) = I.args.x0 R d := by
  rw [X0_eq, first_apply _ _ _ _ _ _ _ hg.op (fun d => hu.bp _)]
  rfl

theorem P0_row (R : Fin 4096) (t : Fin 16) : I.P0 (ix2 R t) = I.args.p0 R t := by
  rw [P0_eq, probsOf_apply]
  simp only [Z0_eq, logitsOf_apply, X0_row hu hg, positionOf_apply, key0_apply, spot0_apply]
  rfl

theorem G0_row (R : Fin 4096) (t : Fin 16) : I.G0 (ix2 R t) = gate (I.args.p0 R) t := by
  rw [G0_eq, gatesOf_apply]
  simp only [P0_row hu hg]

theorem X1_row (R : Fin 4096) (e : Fin 256) : I.X1 (ix2 R e) = I.args.x1 R e := by
  rw [X1_eq, nextOf_apply]
  simp only [outputsOf_apply _ _ _ (b2_first I.b2 hu.b2), hiddenOf_apply _ _ _ (b1_first I.b1 hu.b1), X0_row hu hg, G0_row hu hg,
    up0_apply, down0_apply]
  rfl

theorem P1_row (R : Fin 4096) (t : Fin 16) : I.P1 (ix2 R t) = I.args.p1 R t := by
  rw [P1_eq, probsOf_apply]
  simp only [Z1_eq, logitsOf_apply, X1_row hu hg, positionOf_apply, key1_apply, spot1_apply]
  rfl

theorem G1_row (R : Fin 4096) (t : Fin 16) : I.G1 (ix2 R t) = gate (I.args.p1 R) t := by
  rw [G1_eq, gatesOf_apply]
  simp only [P1_row hu hg]

theorem X2_row (R : Fin 4096) (e : Fin 256) : I.X2 (ix2 R e) = I.args.x2 R e := by
  rw [X2_eq, nextOf_apply]
  simp only [outputsOf_apply _ _ _ (b2_second I.b2 hu.b2), hiddenOf_apply _ _ _ (b1_second I.b1 hu.b1), X1_row hu hg,
    G1_row hu hg, up1_apply, down1_apply]
  rfl

/-- The first result, row by row. -/
theorem out0_row (R : Fin 4096) (k : Fin 8) : I.out0 (ix2 R k) = I.args.res R k := by
  rw [out0_eq, head_apply _ _ _ _ _ (fun j => hu.bh1 _) (fun k => hu.bh2 _)]
  simp only [X2_row hu hg]
  rfl

/-- The second result, row by row. -/
theorem out1_row (R : Fin 4096) (k : Fin 4) : I.out1 (ix2 R k) = I.args.place R k := by
  rw [out1_eq, bestOf_place]
  simp only [P1_row hu hg]
  rfl

omit hu hg in
theorem used_real (p : Fin 16 → EReal) (t : Fin 16) : IsReal (used p t) := by
  unfold used
  split
  · exact ⟨1, rfl⟩
  · exact isReal_zero

/-- The third result. -/
theorem load_value (i : S_.Idx) : I.L i = I.args.load := by
  rw [L_eq]
  pointwise
  rw [loadOf_apply, loadOf_apply]
  simp only [meanOf_apply, usedOf_apply, P0_row hu hg, P1_row hu hg, G0_row hu hg, G1_row hu hg]
  refine Eq.trans ?_ (load_sum (fun t => ∑ R, I.args.amount R 0 t) (fun t => ∑ R, I.args.amount R 1 t)
    (fun t => ∑ R, I.args.amount R 2 t) (fun t => ∑ R, I.args.amount R 3 t) ?_ ?_ ?_ ?_)
  · rfl
  · exact fun t => IsReal.sum _ _ fun R _ => (hg.p0_pos R t).imp fun r h => h.2
  · exact fun t => IsReal.sum _ _ fun R _ => used_real _ t
  · exact fun t => IsReal.sum _ _ fun R _ => (hg.p1_pos R t).imp fun r h => h.2
  · exact fun t => IsReal.sum _ _ fun R _ => used_real _ t

theorem out2_value (i j : Fin 1) : I.out2 (ix2 i j) = I.args.load := by
  rw [out2_eq]
  exact load_value hu hg _

end Cert.Proof.RefRows
-- ==== Proof.Drawn.lean ====
/-
  THE PRECONDITION, READ BACK. The precondition is one bit, the conjunction of its parts; each part is a conjunction over an
  array. Read back it says what the specification asks of the arguments, and that the biases are zero.
-/
module

public import proofs.«01_k».proof.Pre_drawn
public import proofs.«01_k».proof.Proof.Consts
public import proofs.«01_k».proof.Proof.Finite
public import Idealize.ShloMosaic.Lib.ReduceAll
public import Idealize.ShloMosaic.Lib.Affine
public import Idealize.ShloMosaic.Lib.Decide
public import Idealize.ShloMosaic.Lib.Pointwise

@[expose] public section

noncomputable section

namespace Cert.Proof.Drawn

open Idealize.ShloMosaic Cert.Pre_drawn Cert.Proof.Consts Cert.Proof.Finite

/-- The shape relations the precondition states. -/
theorem facts : Cert.Pre_drawn.Facts where
  bcast_S_S4096 := by decide
  reducesTo_S4096_S_d0 := by decide
  h_S_ := by decide
  slices_S2x16x256x512_S1x16x256x512_0_0_0_0 := by decide
  shapeCasts_S1x16x256x512_S16x256x512 := by decide
  slices_S2x16x512x256_S1x16x512x256_0_0_0_0 := by decide
  shapeCasts_S1x16x512x256_S16x512x256 := by decide
  bcast_S_S8x32 := by decide
  reducesTo_S8x32_S_d0_1 := by decide
  bcast_S_S49x256 := by decide
  reducesTo_S49x256_S_d0_1 := by decide
  bcast_S_S2x16x256 := by decide
  reducesTo_S2x16x256_S_d0_1_2 := by decide
  bcast_S_S2x16 := by decide
  reducesTo_S2x16_S_d0_1 := by decide
  bcast_S_S16x256x512 := by decide
  reducesTo_S16x256x512_S_d0_1_2 := by decide
  bcast_S_S16x512x256 := by decide
  reducesTo_S16x512x256_S_d0_1_2 := by decide
  bcast_S_S256 := by decide
  reducesTo_S256_S_d0 := by decide
  bcast_S_S2x16x512 := by decide
  reducesTo_S2x16x512_S_d0_1_2 := by decide
  bcast_S_S64 := by decide
  reducesTo_S64_S_d0 := by decide
  bcast_S_S8 := by decide
  reducesTo_S8_S_d0 := by decide

instance : Cert.Pre_drawn.Facts := facts

open Cert.Pre_drawn.Facts

/-- An array every entry of which has a magnitude below infinity has real entries. -/
theorem real_of {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) :
    IsReal (x i) := by
  have e' : BitVec.ofBool (decide (max (x i) (-(x i)) < Ideal.ofBits .f32 0x7F800000#32)) = 1#1 := e
  rw [posInf] at e'
  refine isReal_of_abs_lt ?_
  by_contra h
  rw [decide_eq_false h] at e'
  exact absurd e' (by decide)

/-- An array every entry of which equals zero is zero. -/
theorem zero_of {s : Shape} (x : FVec Ideal s .f32) (hb : S_.BroadcastsInDim s (![] : Fin 0 → Fin s.rank)) (i : s.Idx)
    (e : cmpf .oeq x (broadcastInDim s ![] hb (constant (F := Ideal) S_ .f32 0x00000000#32)) i = 1#1) : x i = 0 := by
  have e' : BitVec.ofBool (decide (x i = Ideal.ofBits .f32 0x00000000#32)) = 1#1 := e
  rw [zero_f32] at e'
  by_contra h
  rw [decide_eq_false h] at e'
  exact absurd e' (by decide)

/-- A word signed at least zero and below eight is below eight. -/
theorem below_eight (w : BitVec 32) (e : IntOp.andi (IntOp.cmpi .sge w 0#32) (IntOp.cmpi .slt w 8#32) = 1#1) : w.toNat < 8 := by
  obtain ⟨h, h'⟩ := IntOp.andi_eq_one.1 e
  have h0 : (0#32).toInt ≤ w.toInt := IntOp.cmpi_sge.1 h
  have h8 : w.toInt < (8#32).toInt := IntOp.cmpi_slt.1 h'
  have e0 : (0#32 : BitVec 32).toInt = 0 := by decide
  have e8 : (8#32 : BitVec 32).toInt = 8 := by decide
  rw [e0] at h0
  rw [e8] at h8
  have hw := BitVec.toInt_eq_toNat_cond w
  split at hw <;> omega

/-- What the precondition says of the arguments. -/
structure Said (o : IVec S4096 32) (E : FVec Ideal S8x32 .f32) (W : FVec Ideal S49x256 .f32) (bp : FVec Ideal S256 .f32)
    (key : FVec Ideal S2x16x256 .f32) (spot : FVec Ideal S2x16 .f32) (up : FVec Ideal S2x16x256x512 .f32)
    (b1 : FVec Ideal S2x16x512 .f32) (down : FVec Ideal S2x16x512x256 .f32) (b2 : FVec Ideal S2x16x256 .f32)
    (bh1 : FVec Ideal S64 .f32) (bh2 : FVec Ideal S8 .f32) : Prop where
  op : ∀ R : Fin 4096, (o (ix1 R)).toNat < 8
  E : ∀ i, IsReal (E i)
  W : ∀ i, IsReal (W i)
  key : ∀ i, IsReal (key i)
  spot : ∀ i, IsReal (spot i)
  up : ∀ (t : Fin 16) (d : Fin 256) (f : Fin 512), IsReal (up (ix4 0 t d f))
  down : ∀ (t : Fin 16) (f : Fin 512) (e : Fin 256), IsReal (down (ix4 0 t f e))
  bp : ∀ i, bp i = 0
  b1 : ∀ i, b1 i = 0
  b2 : ∀ i, b2 i = 0
  bh1 : ∀ i, bh1 i = 0
  bh2 : ∀ i, bh2 i = 0

theorem upSlice (up : FVec Ideal S2x16x256x512 .f32) (t : Fin 16) (d : Fin 256) (f : Fin 512) :
    shapeCast S16x256x512 (extractStridedSlice S1x16x256x512 ![0, 0, 0, 0] up slices_S2x16x256x512_S1x16x256x512_0_0_0_0)
      shapeCasts_S1x16x256x512_S16x256x512 (ix3 t d f) = up (ix4 0 t d f) := by
  pointwise

theorem downSlice (down : FVec Ideal S2x16x512x256 .f32) (t : Fin 16) (f : Fin 512) (e : Fin 256) :
    shapeCast S16x512x256 (extractStridedSlice S1x16x512x256 ![0, 0, 0, 0] down slices_S2x16x512x256_S1x16x512x256_0_0_0_0)
      shapeCasts_S1x16x512x256_S16x512x256 (ix3 t f e) = down (ix4 0 t f e) := by
  pointwise

/-- The precondition's bit, read back. -/
theorem said (o a b c : IVec S4096 32) (E : FVec Ideal S8x32 .f32) (W : FVec Ideal S49x256 .f32) (bp : FVec Ideal S256 .f32)
    (key : FVec Ideal S2x16x256 .f32) (spot : FVec Ideal S2x16 .f32) (up : FVec Ideal S2x16x256x512 .f32)
    (b1 : FVec Ideal S2x16x512 .f32) (down : FVec Ideal S2x16x512x256 .f32) (b2 : FVec Ideal S2x16x256 .f32)
    (wh1 : FVec Ideal S256x64 .f32) (bh1 : FVec Ideal S64 .f32) (wh2 : FVec Ideal S64x8 .f32) (bh2 : FVec Ideal S8 .f32)
    (h : Cert.Pre_drawn.fn (F := Ideal) o a b c E W bp key spot up b1 down b2 wh1 bh1 wh2 bh2 = fun _ => 1#1) :
    Said o E W bp key spot up b1 down b2 bh1 bh2 := by
  have e := congrFun h (Shape.Idx.first h_S_)
  dsimp only [Cert.Pre_drawn.fn, Cert.Pre_drawn.fn_part1, Cert.Pre_drawn.fn_part2, Cert.Pre_drawn.fn_part3] at e
  have split {x y : IVec S_ 1} {j : S_.Idx} (q : andi x y j = 1#1) : x j = 1#1 ∧ y j = 1#1 := IntOp.andi_eq_one.1 q
  obtain ⟨e, ebh2⟩ := split e
  obtain ⟨e, ebh1⟩ := split e
  obtain ⟨e, eb2⟩ := split e
  obtain ⟨e, eb1⟩ := split e
  obtain ⟨e, ebp⟩ := split e
  obtain ⟨e, edown⟩ := split e
  obtain ⟨e, eup⟩ := split e
  obtain ⟨e, espot⟩ := split e
  obtain ⟨e, ekey⟩ := split e
  obtain ⟨e, eW⟩ := split e
  obtain ⟨eo, eE⟩ := split e
  haveI : Subsingleton S_.Idx := ⟨fun i j => funext fun a => a.elim0⟩
  exact {
    op := fun R => below_eight _ (Host.reduce_andi_all _ _ _ _ _ eo (ix1 R))
    E := fun i => real_of _ _ i (Host.reduce_andi_all _ _ _ _ _ eE i)
    W := fun i => real_of _ _ i (Host.reduce_andi_all _ _ _ _ _ eW i)
    key := fun i => real_of _ _ i (Host.reduce_andi_all _ _ _ _ _ ekey i)
    spot := fun i => real_of _ _ i (Host.reduce_andi_all _ _ _ _ _ espot i)
    up := fun t d f => upSlice up t d f ▸ real_of _ _ (ix3 t d f) (Host.reduce_andi_all _ _ _ _ _ eup (ix3 t d f))
    down := fun t f e => downSlice down t f e ▸ real_of _ _ (ix3 t f e) (Host.reduce_andi_all _ _ _ _ _ edown (ix3 t f e))
    bp := fun i => zero_of _ _ i (Host.reduce_andi_all _ _ _ _ _ ebp i)
    b1 := fun i => zero_of _ _ i (Host.reduce_andi_all _ _ _ _ _ eb1 i)
    b2 := fun i => zero_of _ _ i (Host.reduce_andi_all _ _ _ _ _ eb2 i)
    bh1 := fun i => zero_of _ _ i (Host.reduce_andi_all _ _ _ _ _ ebh1 i)
    bh2 := fun i => zero_of _ _ i (Host.reduce_andi_all _ _ _ _ _ ebh2 i) }

end Cert.Proof.Drawn
-- ==== Proof.Equal.lean ====
/-
  THE EQUATION. The kernel's three result arrays and the reference's three results are the same functions of the arguments,
  index by index, wherever the precondition holds.
-/
module

public import proofs.«01_k».proof.Defs
public import proofs.«01_k».proof.Proof.Arrays
public import proofs.«01_k».proof.Proof.RefRows
public import proofs.«01_k».proof.Proof.Drawn

@[expose] public section

noncomputable section

namespace Cert.Proof.Equal

open Idealize.ShloMosaic Idealize.SL.Sem
open Cert.Proof.RefRows Cert.Proof.Spec

/-- A kernel's memory. -/
abbrev KMem := (ℓ : Loc Cert.KernelIdeal.nD Cert.KernelIdeal.τ Cert.KernelIdeal.sig) → Buf (Elt Ideal) ℓ
/-- A reference's memory. -/
abbrev RMem := (ℓ : Loc Cert.ReferenceIdeal.nD Cert.ReferenceIdeal.τ Cert.ReferenceIdeal.sig) → Buf (Elt Ideal) ℓ

/-- The kernel's arguments. -/
def given (m : KMem) (c : Dev Cert.KernelIdeal.nD) : Inputs where
  o := m ((c.tc : Thread Cert.KernelIdeal.nD Cert.KernelIdeal.τ).loc Cert.KernelIdeal.main_arg0)
  a := m ((c.tc : Thread Cert.KernelIdeal.nD Cert.KernelIdeal.τ).loc Cert.KernelIdeal.main_arg1)
  b := m ((c.tc : Thread Cert.KernelIdeal.nD Cert.KernelIdeal.τ).loc Cert.KernelIdeal.main_arg2)
  c := m ((c.tc : Thread Cert.KernelIdeal.nD Cert.KernelIdeal.τ).loc Cert.KernelIdeal.main_arg3)
  E := m ((c.tc : Thread Cert.KernelIdeal.nD Cert.KernelIdeal.τ).loc Cert.KernelIdeal.main_arg4)
  W := m ((c.tc : Thread Cert.KernelIdeal.nD Cert.KernelIdeal.τ).loc Cert.KernelIdeal.main_arg5)
  bp := m ((c.tc : Thread Cert.KernelIdeal.nD Cert.KernelIdeal.τ).loc Cert.KernelIdeal.main_arg6)
  key := m ((c.tc : Thread Cert.KernelIdeal.nD Cert.KernelIdeal.τ).loc Cert.KernelIdeal.main_arg7)
  spot := m ((c.tc : Thread Cert.KernelIdeal.nD Cert.KernelIdeal.τ).loc Cert.KernelIdeal.main_arg8)
  up := m ((c.tc : Thread Cert.KernelIdeal.nD Cert.KernelIdeal.τ).loc Cert.KernelIdeal.main_arg9)
  b1 := m ((c.tc : Thread Cert.KernelIdeal.nD Cert.KernelIdeal.τ).loc Cert.KernelIdeal.main_arg10)
  down := m ((c.tc : Thread Cert.KernelIdeal.nD Cert.KernelIdeal.τ).loc Cert.KernelIdeal.main_arg11)
  b2 := m ((c.tc : Thread Cert.KernelIdeal.nD Cert.KernelIdeal.τ).loc Cert.KernelIdeal.main_arg12)
  wh1 := m ((c.tc : Thread Cert.KernelIdeal.nD Cert.KernelIdeal.τ).loc Cert.KernelIdeal.main_arg13)
  bh1 := m ((c.tc : Thread Cert.KernelIdeal.nD Cert.KernelIdeal.τ).loc Cert.KernelIdeal.main_arg14)
  wh2 := m ((c.tc : Thread Cert.KernelIdeal.nD Cert.KernelIdeal.τ).loc Cert.KernelIdeal.main_arg15)
  bh2 := m ((c.tc : Thread Cert.KernelIdeal.nD Cert.KernelIdeal.τ).loc Cert.KernelIdeal.main_arg16)

/-- The reference's arguments. -/
def taken (m : RMem) (c : Dev Cert.ReferenceIdeal.nD) : Inputs where
  o := m ((c.tc : Thread Cert.ReferenceIdeal.nD Cert.ReferenceIdeal.τ).loc Cert.ReferenceIdeal.main_arg0)
  a := m ((c.tc : Thread Cert.ReferenceIdeal.nD Cert.ReferenceIdeal.τ).loc Cert.ReferenceIdeal.main_arg1)
  b := m ((c.tc : Thread Cert.ReferenceIdeal.nD Cert.ReferenceIdeal.τ).loc Cert.ReferenceIdeal.main_arg2)
  c := m ((c.tc : Thread Cert.ReferenceIdeal.nD Cert.ReferenceIdeal.τ).loc Cert.ReferenceIdeal.main_arg3)
  E := m ((c.tc : Thread Cert.ReferenceIdeal.nD Cert.ReferenceIdeal.τ).loc Cert.ReferenceIdeal.main_arg4)
  W := m ((c.tc : Thread Cert.ReferenceIdeal.nD Cert.ReferenceIdeal.τ).loc Cert.ReferenceIdeal.main_arg5)
  bp := m ((c.tc : Thread Cert.ReferenceIdeal.nD Cert.ReferenceIdeal.τ).loc Cert.ReferenceIdeal.main_arg6)
  key := m ((c.tc : Thread Cert.ReferenceIdeal.nD Cert.ReferenceIdeal.τ).loc Cert.ReferenceIdeal.main_arg7)
  spot := m ((c.tc : Thread Cert.ReferenceIdeal.nD Cert.ReferenceIdeal.τ).loc Cert.ReferenceIdeal.main_arg8)
  up := m ((c.tc : Thread Cert.ReferenceIdeal.nD Cert.ReferenceIdeal.τ).loc Cert.ReferenceIdeal.main_arg9)
  b1 := m ((c.tc : Thread Cert.ReferenceIdeal.nD Cert.ReferenceIdeal.τ).loc Cert.ReferenceIdeal.main_arg10)
  down := m ((c.tc : Thread Cert.ReferenceIdeal.nD Cert.ReferenceIdeal.τ).loc Cert.ReferenceIdeal.main_arg11)
  b2 := m ((c.tc : Thread Cert.ReferenceIdeal.nD Cert.ReferenceIdeal.τ).loc Cert.ReferenceIdeal.main_arg12)
  wh1 := m ((c.tc : Thread Cert.ReferenceIdeal.nD Cert.ReferenceIdeal.τ).loc Cert.ReferenceIdeal.main_arg13)
  bh1 := m ((c.tc : Thread Cert.ReferenceIdeal.nD Cert.ReferenceIdeal.τ).loc Cert.ReferenceIdeal.main_arg14)
  wh2 := m ((c.tc : Thread Cert.ReferenceIdeal.nD Cert.ReferenceIdeal.τ).loc Cert.ReferenceIdeal.main_arg15)
  bh2 := m ((c.tc : Thread Cert.ReferenceIdeal.nD Cert.ReferenceIdeal.τ).loc Cert.ReferenceIdeal.main_arg16)

/-- Both sides' specifications read the same arguments. -/
theorem args_given (m : KMem) (c : Dev Cert.KernelIdeal.nD) : (given m c).args = Held.args m c := rfl

section
variable (m : KMem) (h : Cert.Pre_KernelIdeal_drawn m) (c : Dev Cert.KernelIdeal.nD)
include h

/-- The precondition, of the kernel's arguments. -/
theorem said : Drawn.Said (given m c).o (given m c).E (given m c).W (given m c).bp (given m c).key (given m c).spot (given m c).up
    (given m c).b1 (given m c).down (given m c).b2 (given m c).bh1 (given m c).bh2 :=
  Drawn.said _ _ _ _ _ _ _ _ _ _ _ _ _ _ _ _ _ (h c)

/-- The arguments are good. -/
theorem good : (given m c).args.Good where
  op := (said m h c).op
  E := fun _ _ => (said m h c).E _
  W := fun _ _ => (said m h c).W _
  key := fun _ _ _ => (said m h c).key _
  spot := fun _ _ => (said m h c).spot _
  up := (said m h c).up
  down := (said m h c).down

/-- The biases are zero. -/
theorem unbiased : (given m c).Unbiased where
  bp := (said m h c).bp
  b1 := (said m h c).b1
  b2 := (said m h c).b2
  bh1 := (said m h c).bh1
  bh2 := (said m h c).bh2

/-- The first results are equal. -/
theorem first : (given m c).out0 = Cert.KernelIdeal.Value.G12 m c := by
  funext i
  obtain ⟨R, k, rfl⟩ : ∃ (R : Fin 4096) (k : Fin 8), i = ix2 R k := ⟨i 0, i 1, eq_ix2 i⟩
  exact (out0_row (unbiased m h c) (good m h c) R k).trans (Arrays.res_array m c (good m h c) R k).symm

/-- The second results are equal. -/
theorem second : (given m c).out1 = Cert.KernelIdeal.Value.G13 m c := by
  funext i
  obtain ⟨R, k, rfl⟩ : ∃ (R : Fin 4096) (k : Fin 4), i = ix2 R k := ⟨i 0, i 1, eq_ix2 i⟩
  exact (out1_row (unbiased m h c) (good m h c) R k).trans (Arrays.topi_array m c (good m h c) R k).symm

/-- The third results are equal. -/
theorem third : (given m c).out2 = Cert.KernelIdeal.Value.G14 m c := by
  funext i
  obtain ⟨a, b, rfl⟩ : ∃ (a b : Fin 1), i = ix2 a b := ⟨i 0, i 1, eq_ix2 i⟩
  exact (out2_value (unbiased m h c) (good m h c) a b).trans (Arrays.load_array m c (good m h c) a b).symm

end

/-- From memories that agree on the arguments, kernel and reference end with equal results. -/
theorem algebraic : Cert.algebraic_KernelIdeal_ReferenceIdeal_pre_drawn := by
  intro m g m' g' h hm
  have agree : ∀ c : Dev Cert.KernelIdeal.nD, taken m' c = given m c := fun c => by
    obtain ⟨h0, h1, h2, h3, h4, h5, h6, h7, h8, h9, h10, h11, h12, h13, h14, h15, h16⟩ := hm c
    exact Inputs.ext h0 h1 h2 h3 h4 h5 h6 h7 h8 h9 h10 h11 h12 h13 h14 h15 h16
  refine ⟨fun c => Cert.KernelIdeal.Value.G12 m c, fun c => Cert.KernelIdeal.Value.G13 m c, fun c => Cert.KernelIdeal.Value.G14 m c,
    Cert.KernelIdeal.Value.run m g, ?_⟩
  refine (θ_run Cert.ReferenceIdeal.defs _ _).mono (fun r q c => ?_) (Cert.ReferenceIdeal.Value.run (F := Ideal) m' g')
  obtain ⟨q0, q1, q2, kept⟩ := q c
  refine ⟨?_, ?_, ?_, kept⟩
  · refine q0.trans ((Cert.ReferenceIdeal.Read.val_main_v280_eq (StableHlo.launchContents m' c)).trans ?_)
    exact (congrArg Inputs.out0 (agree c)).trans (first m h c)
  · refine q1.trans ((Cert.ReferenceIdeal.Read.val_main_indices_56_eq (StableHlo.launchContents m' c)).trans ?_)
    exact (congrArg Inputs.out1 (agree c)).trans (second m h c)
  · refine q2.trans ((Cert.ReferenceIdeal.Read.val_main_v281_eq (StableHlo.launchContents m' c)).trans ?_)
    exact (congrArg Inputs.out2 (agree c)).trans (third m h c)

end Cert.Proof.Equal
-- ==== Proof.lean ====
/-
  THE CLAIM. The three programs end with their semaphores at zero (the frames), the named constant is what the idealized kernel
  says it is, and the idealized kernel computes what the idealized reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel ends, its arguments kept and its semaphores at zero. -/
theorem frame_P : Cert.quiescent_Kernel := fun m ρ _ => Cert.Kernel.Gen.frame m ρ

/-- So does the idealized kernel. -/
theorem frame_PI : Cert.quiescent_KernelIdeal := fun m ρ _ => Cert.KernelIdeal.Gen.frame m ρ

/-- So does the idealized reference. -/
theorem frame_RI : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The constant named `spread` has the kernel's bits and the value 2/9. -/
theorem preserves : Cert.preserves_Kernel_KernelIdeal :=
  IdealRules.named_const.statement Cert.KernelIdeal.κ "spread" .f32 0x3E638E39#32 ((2 / 9 : ℝ) : EReal) rfl

/-- The five claims. -/
theorem claim : Cert.Claim :=
  ⟨Cert.Kernel.Gen.facts, Cert.KernelIdeal.Gen.facts, Cert.ReferenceIdeal.Gen.facts, Cert.Proof.Drawn.facts,
    frame_P, frame_PI, fun m ρ _ => Cert.KernelIdeal.Gen.frame m ρ, frame_RI,
    fun m ρ _ => (θ_run Cert.ReferenceIdeal.defs _ _).mono
      (fun r h => ⟨fun c => (h c).2.2.2, Idealize.ShloMosaic.sem_eq_zero_of_no_sems (by decide) r.2⟩)
      (Cert.ReferenceIdeal.Value.run (F := Ideal) m ρ),
    preserves, Equal.algebraic⟩

end Cert.Proof

end
